-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S4x128x2048 : Shape := ⟨3, ![4, 128, 2048]⟩
abbrev S128x128x3 : Shape := ⟨3, ![128, 128, 3]⟩
abbrev S128 : Shape := ⟨1, ![128]⟩
abbrev S_ : Shape := ⟨0, ![]⟩

class Facts : Prop where
  bcast_S_S4x128x2048 : S_.BroadcastsInDim S4x128x2048 (![] : Fin 0 → Fin S4x128x2048.rank)
  reducesTo_S4x128x2048_S_d0_1_2 : S4x128x2048.ReducesTo [0, 1, 2] S_
  h_S_ : 0 < S_.numel

variable [Facts]

def fn {F : FTy → Type} [FloatOps F] (main_arg0 : FVec F S4x128x2048 .f32) (main_arg1 : FVec F S128x128x3 .f32) (main_arg2 : FVec F S128 .f32) : IVec S_ 1 :=
  let main_v0 : FVec F S4x128x2048 .f32 := Host.absf main_arg0
  let main_cst : FVec F S_ .f32 := constant S_ .f32 0x7F800000#32
  let main_v1 : FVec F S4x128x2048 .f32 := broadcastInDim S4x128x2048 ![] bcast_S_S4x128x2048 main_cst
  let main_v2 : IVec S4x128x2048 1 := cmpf .olt main_v0 main_v1
  let main_c : IVec S_ 1 := constantI S_ 1 1#1
  let main_v3 : IVec S_ 1 := (fun x v => Host.reduce IntOp.andi x v reducesTo_S4x128x2048_S_d0_1_2 h_S_) main_v2 main_c
  main_v3
-- ==== KernelIdeal.lean ====
abbrev S4x128x2048 : Shape := ⟨3, ![4, 128, 2048]⟩
abbrev S128x128x3 : Shape := ⟨3, ![128, 128, 3]⟩
abbrev S128 : Shape := ⟨1, ![128]⟩
abbrev S8192x128 : Shape := ⟨2, ![8192, 128]⟩
abbrev S2x16x1x512 : Shape := ⟨4, ![2, 16, 1, 512]⟩
abbrev S1x128x2048 : Shape := ⟨3, ![1, 128, 2048]⟩
abbrev S1x128x512 : Shape := ⟨3, ![1, 128, 512]⟩
abbrev S512x128 : Shape := ⟨2, ![512, 128]⟩
abbrev S2x1x1x512 : Shape := ⟨4, ![2, 1, 1, 512]⟩
abbrev S128x2048 : Shape := ⟨2, ![128, 2048]⟩
abbrev S128x512 : Shape := ⟨2, ![128, 512]⟩
abbrev S512x2048 : Shape := ⟨2, ![512, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩
abbrev S512x2 : Shape := ⟨2, ![512, 2]⟩
abbrev S2x512 : Shape := ⟨2, ![2, 512]⟩
abbrev S16384 : Shape := ⟨1, ![16384]⟩
abbrev S16384x128 : Shape := ⟨2, ![16384, 128]⟩
abbrev S_ : Shape := ⟨0, ![]⟩
abbrev S128x128 : Shape := ⟨2, ![128, 128]⟩
abbrev S2x4x2048x128 : Shape := ⟨4, ![2, 4, 2048, 128]⟩
abbrev S4x2048x128 : Shape := ⟨3, ![4, 2048, 128]⟩
abbrev S3x128x128 : Shape := ⟨3, ![3, 128, 128]⟩
abbrev S1x128 : Shape := ⟨2, ![1, 128]⟩
abbrev S1x512x128 : Shape := ⟨3, ![1, 512, 128]⟩
abbrev S2x1x512x128 : Shape := ⟨4, ![2, 1, 512, 128]⟩
abbrev S1x128x128 : Shape := ⟨3, ![1, 128, 128]⟩
abbrev S1x1x512x128 : Shape := ⟨4, ![1, 1, 512, 128]⟩
abbrev S128x1 : Shape := ⟨2, ![128, 1]⟩

abbrev nBuf : Table → Nat
  | .hbm => 12
  | .local .tc .vmem => 16
  | .local .scVector .vmem => 2
  | _ => 0

abbrev bufTy : (tb : Table) → Fin (nBuf tb) → BufTy
  | .hbm, ⟨0, _⟩ => ⟨S4x128x2048, .f32⟩
  | .hbm, ⟨1, _⟩ => ⟨S128x128x3, .f32⟩
  | .hbm, ⟨2, _⟩ => ⟨S128, .f32⟩
  | .hbm, ⟨3, _⟩ => ⟨S8192x128, .f32⟩
  | .hbm, ⟨4, _⟩ => ⟨S2x16x1x512, .i32⟩
  | .hbm, ⟨5, _⟩ => ⟨S16384, .i32⟩
  | .hbm, ⟨6, _⟩ => ⟨S16384x128, .f32⟩
  | .hbm, ⟨7, _⟩ => ⟨S2x4x2048x128, .f32⟩
  | .hbm, ⟨8, _⟩ => ⟨S4x2048x128, .f32⟩
  | .hbm, ⟨9, _⟩ => ⟨S3x128x128, .f32⟩
  | .hbm, ⟨10, _⟩ => ⟨S1x128, .f32⟩
  | .hbm, ⟨11, _⟩ => ⟨S4x128x2048, .f32⟩
  | .local .tc .vmem, ⟨0, _⟩ => ⟨S1x128x2048, .f32⟩
  | .local .tc .vmem, ⟨1, _⟩ => ⟨S1x128x2048, .f32⟩
  | .local .tc .vmem, ⟨2, _⟩ => ⟨S1x128x512, .f32⟩
  | .local .tc .vmem, ⟨3, _⟩ => ⟨S1x128x512, .f32⟩
  | .local .tc .vmem, ⟨4, _⟩ => ⟨S512x128, .f32⟩
  | .local .tc .vmem, ⟨5, _⟩ => ⟨S512x128, .f32⟩
  | .local .tc .vmem, ⟨6, _⟩ => ⟨S2x1x1x512, .i32⟩
  | .local .tc .vmem, ⟨7, _⟩ => ⟨S2x1x1x512, .i32⟩
  | .local .tc .vmem, ⟨8, _⟩ => ⟨S1x512x128, .f32⟩
  | .local .tc .vmem, ⟨9, _⟩ => ⟨S1x512x128, .f32⟩
  | .local .tc .vmem, ⟨10, _⟩ => ⟨S2x1x512x128, .f32⟩
  | .local .tc .vmem, ⟨11, _⟩ => ⟨S2x1x512x128, .f32⟩
  | .local .tc .vmem, ⟨12, _⟩ => ⟨S3x128x128, .f32⟩
  | .local .tc .vmem, ⟨13, _⟩ => ⟨S1x128, .f32⟩
  | .local .tc .vmem, ⟨14, _⟩ => ⟨S1x128x512, .f32⟩
  | .local .tc .vmem, ⟨15, _⟩ => ⟨S1x128x512, .f32⟩
  | .local .scVector .vmem, ⟨0, _⟩ => ⟨S512, .i32⟩
  | .local .scVector .vmem, ⟨1, _⟩ => ⟨S512x128, .f32⟩
  | _, _ => ⟨S4x128x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v0_0_scv : Ref sig .scVector := ⟨.hbm, 3, rfl⟩
abbrev main_v1_scv : Ref sig .scVector := ⟨.hbm, 5, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) (c0_i32_21 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v18 : BitVec 32 := Scalar.addi v2 c0_i32_21
  let c0_i32_24 : BitVec 32 := 0#32
  ![v18.toNat, 0]
abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2x1x512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S3x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x128x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x2048 : Shape := ⟨3, ![4, 128, 2048]⟩
abbrev S128x128x3 : Shape := ⟨3, ![128, 128, 3]⟩
abbrev S128 : Shape := ⟨1, ![128]⟩
abbrev S_ : Shape := ⟨0, ![]⟩
abbrev S4x2048 : Shape := ⟨2, ![4, 2048]⟩
abbrev S4x1x2048 : Shape := ⟨3, ![4, 1, 2048]⟩
abbrev S4x2048x2048 : Shape := ⟨3, ![4, 2048, 2048]⟩
abbrev S4x2048x1 : Shape := ⟨3, ![4, 2048, 1]⟩
abbrev S4x2048x3 : Shape := ⟨3, ![4, 2048, 3]⟩
abbrev S4x2048x3x1 : Shape := ⟨4, ![4, 2048, 3, 1]⟩
abbrev S4x128x2048x3 : Shape := ⟨4, ![4, 128, 2048, 3]⟩
abbrev S4x2048x128 : Shape := ⟨3, ![4, 2048, 128]⟩
abbrev S1x128x1 : Shape := ⟨3, ![1, 128, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x128x2048, .f32⟩
  | .hbm, ⟨1, _⟩ => ⟨S128x128x3, .f32⟩
  | .hbm, ⟨2, _⟩ => ⟨S128, .f32⟩
  | .hbm, ⟨3, _⟩ => ⟨S4x128x2048, .f32⟩
  | .hbm, ⟨4, _⟩ => ⟨S_, .f32⟩
  | .hbm, ⟨5, _⟩ => ⟨S4x2048, .f32⟩
  | .hbm, ⟨6, _⟩ => ⟨S4x1x2048, .f32⟩
  | .hbm, ⟨7, _⟩ => ⟨S4x2048x2048, .f32⟩
  | .hbm, ⟨8, _⟩ => ⟨S4x2048x1, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x3, .f32⟩
  | .hbm, ⟨18, _⟩ => ⟨S4x2048x3, .i32⟩
  | .hbm, ⟨19, _⟩ => ⟨S_, .i32⟩
  | .hbm, ⟨20, _⟩ => ⟨S4x2048x3, .i32⟩
  | .hbm, ⟨21, _⟩ => ⟨S4x2048x3, .i1⟩
  | .hbm, ⟨22, _⟩ => ⟨S_, .i32⟩
  | .hbm, ⟨23, _⟩ => ⟨S4x2048x3, .i32⟩
  | .hbm, ⟨24, _⟩ => ⟨S4x2048x3, .i32⟩
  | .hbm, ⟨25, _⟩ => ⟨S4x2048x3, .i32⟩
  | .hbm, ⟨26, _⟩ => ⟨S4x2048x3x1, .i32⟩
  | .hbm, ⟨27, _⟩ => ⟨S4x128x2048x3, .f32⟩
  | .hbm, ⟨28, _⟩ => ⟨S4x2048x128, .f32⟩
  | .hbm, ⟨29, _⟩ => ⟨S4x128x2048, .f32⟩
  | .hbm, ⟨30, _⟩ => ⟨S1x128x1, .f32⟩
  | .hbm, ⟨31, _⟩ => ⟨S4x128x2048, .f32⟩
  | .hbm, ⟨32, _⟩ => ⟨S4x128x2048, .f32⟩
  | .hbm, ⟨33, _⟩ => ⟨S_, .f32⟩
  | .hbm, ⟨34, _⟩ => ⟨S4x128x2048, .f32⟩
  | .hbm, ⟨35, _⟩ => ⟨S4x128x2048, .f32⟩
  | _, _ => ⟨S4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.Setup.lean ====
/-
  The program as the SparseCore launch theorem sees it, the ghost state of its three calls, and the gather call's
  operands: how the table, the index list and the output are dealt to the 32 tiles.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Batch
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KNN

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers of the gather call -/

abbrev tLoc (d : Dev nD) : Loc nD τ sig := (SparseCore.T d).loc main_v0_0
abbrev iLoc (d : Dev nD) : Loc nD τ sig := (SparseCore.T d).loc main_v1
abbrev oLoc (d : Dev nD) : Loc nD τ sig := (SparseCore.T d).loc main_v2

local notation "tV" => (Memref.whole Cert.KernelIdeal.main_v0_0_scv : Memref Cert.KernelIdeal.sig Kind.scVector Space.hbm Cert.KernelIdeal.S8192x128 EltTy.f32)
local notation "iV" => (Memref.whole Cert.KernelIdeal.main_v1_scv : Memref Cert.KernelIdeal.sig Kind.scVector Space.hbm Cert.KernelIdeal.S16384 EltTy.i32)
local notation "oV" => (Memref.whole Cert.KernelIdeal.main_v2_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

theorem odiv : 128 ∣ S16384x128.size 0 := ⟨128, rfl⟩
/-- Rows `128 j … 128 j + 127` of the output. -/
abbrev oBlk (j : Fin 128) : Finset S16384x128.Idx := (Rect.part (s := S16384x128) (a₀ := 0) odiv j).set
/-- The block that tile `(c, s)` fills with its chunk `k`. -/
def blk (c : Fin 2) (s : Fin 16) (k : Fin 4) : Fin 128 := ⟨8 * s.val + 4 * c.val + k.val, by omega⟩

/-- The share a core reads with, and the share each of its tiles reads with. -/
abbrev cq (c : Fin 2) : PosShare TreeShare := pieceOf fullShare 2 (by decide) c
abbrev tq (c : Fin 2) (s : Fin 16) : PosShare TreeShare := pieceOf (cq c) 16 (by decide) s

/-- What the gather call leaves: row `r` of the output is the table's row that entry `r` of the list names. -/
def gath (tb : S8192x128.Idx → Elt F .f32) (ix : S16384.Idx → Elt F .i32) : S16384x128.Idx → Elt F .f32 :=
  fun j => tb (fun
    | 0 => (⟨(ix (fun | 0 => (j 0 : Fin 16384))).toNat % 8192, Nat.mod_lt _ (by decide)⟩ : Fin 8192)
    | 1 => (j 1 : Fin 128))

variable (TB : (d : Dev nD) → Buf (Elt F) (tLoc d)) (IX : (d : Dev nD) → Buf (Elt F) (iLoc d)) (OB : (d : Dev nD) → Buf (Elt F) (oLoc d))

/-- The gathered rows on device `d`. -/
abbrev GO (d : Dev nD) : Buf (Elt F) (oLoc d) := gath (F := F) (TB d) (IX d)

/-- Every entry of the list names a row of the table. -/
def IxOK : Prop := ∀ (d : Dev nD) (j : S16384.Idx), (IX d j : BitVec 32).toNat < 8192

/-- A core's operands: its read shares of the table and the list, and its tiles' blocks of the output at `f`. -/
def coreRes (f : (d : Dev nD) → Buf (Elt F) (oLoc d)) (d : Dev nD) (c : Fin 2) : sProp 𝕄 :=
  iprop((tLoc d ↦{cq c} TB d) ∗ (iLoc d ↦{cq c} IX d)
    ∗ bigSep Finset.univ fun s : Fin 16 => bigSep Finset.univ fun k : Fin 4 => oLoc d ↦[oBlk (blk c s k)]{fullShare} f d)
/-- A tile's. -/
def tileRes (f : (d : Dev nD) → Buf (Elt F) (oLoc d)) (d : Dev nD) (c : Fin 2) (s : Fin 16) : sProp 𝕄 :=
  iprop((tLoc d ↦{tq c s} TB d) ∗ (iLoc d ↦{tq c s} IX d)
    ∗ bigSep Finset.univ fun k : Fin 4 => oLoc d ↦[oBlk (blk c s k)]{fullShare} f d)

instance (f : (d : Dev nD) → Buf (Elt F) (oLoc d)) (d : Dev nD) (c : Fin 2) : BI.Storable (upEmb : UEmb _ 𝕄) (coreRes TB IX f d c) := by
  unfold coreRes; infer_instance
instance (f : (d : Dev nD) → Buf (Elt F) (oLoc d)) (d : Dev nD) (c : Fin 2) (s : Fin 16) : BI.Storable (upEmb : UEmb _ 𝕄) (tileRes TB IX f d c s) := by
  unfold tileRes; infer_instance

/-- What the handshakes carry: the operands at the output's old contents out, at the gathered rows back. -/
def P : (K (F := F)).Pay (nD := nD) (Val := Elt F) (Name := ℕ) (U := UU) where
  st := fun q d c => match q with | 0 => coreRes TB IX OB d (Fin.cast nCore_zero c)
  dn := fun q d c => match q with | 0 => coreRes TB IX (GO TB IX) d (Fin.cast nCore_zero c)
  go := fun q d c i => match q with | 0 => tileRes TB IX OB d (Fin.cast nCore_zero c) (Fin.cast nSub_zero i)
  td := fun q d c i => match q with | 0 => tileRes TB IX (GO TB IX) d (Fin.cast nCore_zero c) (Fin.cast nSub_zero i)
  x := fun _ _ => iprop(emp)

instance P_storable : (P (F := F) TB IX OB).IsStorable where
  st q d c := match q with | 0 => (inferInstance : BI.Storable (upEmb : UEmb _ 𝕄) (coreRes TB IX OB d (Fin.cast nCore_zero c)))
  dn q d c := match q with | 0 => (inferInstance : BI.Storable (upEmb : UEmb _ 𝕄) (coreRes TB IX (GO TB IX) d (Fin.cast nCore_zero c)))
  go q d c i := match q with
    | 0 => (inferInstance : BI.Storable (upEmb : UEmb _ 𝕄) (tileRes TB IX OB d (Fin.cast nCore_zero c) (Fin.cast nSub_zero i)))
  td q d c i := match q with
    | 0 => (inferInstance : BI.Storable (upEmb : UEmb _ 𝕄) (tileRes TB IX (GO TB IX) d (Fin.cast nCore_zero c) (Fin.cast nSub_zero i)))

/-! ## The operands dealt to the cores and the tiles, and joined -/

theorem bigSep_blk (Φ : Fin 128 → sProp 𝕄) :
    bigSep Finset.univ Φ = bigSep Finset.univ fun c : Fin 2 => bigSep Finset.univ fun s : Fin 16 => bigSep Finset.univ fun k : Fin 4 => Φ (blk c s k) := by
  let e : ((_ : Fin 2) × ((_ : Fin 16) × Fin 4)) ≃ Fin 128 :=
    { toFun := fun x => blk x.1 x.2.1 x.2.2
      invFun := fun j => ⟨⟨j.val / 4 % 2, by omega⟩, ⟨⟨j.val / 8, by omega⟩, ⟨j.val % 4, by omega⟩⟩⟩
      left_inv := fun ⟨c, s, k⟩ => by
        have := c.isLt; have := s.isLt; have := k.isLt
        simp only [blk, Sigma.mk.injEq, heq_eq_eq, Fin.ext_iff]; omega
      right_inv := fun j => by simp only [blk, Fin.ext_iff]; omega }
  rw [bigSep_univ_equiv e, Pipeline.bigSep_univ_sigma]
  refine bigSep_congr fun c _ => ?_
  rw [Pipeline.bigSep_univ_sigma]; rfl

theorem oPts_blocks (d : Dev nD) (f : Buf (Elt F) (oLoc d)) :
    (oLoc d ↦{fullShare} f : sProp 𝕄) = bigSep Finset.univ fun j : Fin 128 => oLoc d ↦[oBlk j]{fullShare} f := by
  rw [← pointsTo_biUnion Finset.univ (ℓ := oLoc d) oBlk (fun i _ j _ h => Rect.part_disjoint odiv h),
    show (Finset.univ : Finset (Fin 128)).biUnion oBlk = Finset.univ from Rect.biUnion_part odiv]; try rfl

/-- The three operands whole are the two cores' operands. -/
theorem core_split (f : (d : Dev nD) → Buf (Elt F) (oLoc d)) (d : Dev nD) :
    (iprop((tLoc d ↦{fullShare} TB d) ∗ (iLoc d ↦{fullShare} IX d) ∗ (oLoc d ↦{fullShare} f d)) : sProp 𝕄)
      = bigSep Finset.univ fun c : Fin 2 => coreRes TB IX f d c := by
  unfold coreRes
  rw [bigSep_sep', bigSep_sep', oPts_blocks, bigSep_blk, pointsTo_piecesOf Finset.univ (TB d) (by decide : 0 < 2) fullShare,
    pointsTo_piecesOf Finset.univ (IX d) (by decide : 0 < 2) fullShare]

/-- A core's operands are its tiles'. -/
theorem tile_split (f : (d : Dev nD) → Buf (Elt F) (oLoc d)) (d : Dev nD) (c : Fin 2) :
    (coreRes TB IX f d c : sProp 𝕄) = bigSep Finset.univ fun s : Fin 16 => tileRes TB IX f d c s := by
  unfold tileRes coreRes
  rw [bigSep_sep', bigSep_sep', pointsTo_piecesOf Finset.univ (TB d) (by decide : 0 < 16) (cq c),
    pointsTo_piecesOf Finset.univ (IX d) (by decide : 0 < 16) (cq c)]

theorem vecSplit : (K (F := F)).VecSplit' (P TB IX OB) 0 := by
  intro d c
  show coreRes TB IX OB d (Fin.cast nCore_zero c) ⊢ |={Set.univ}=> iprop(
      (bigSep Finset.univ fun i : Fin ((K (F := F)).nSub 0) => tileRes TB IX OB d (Fin.cast nCore_zero c) (Fin.cast nSub_zero i))
      ∗ ((bigSep Finset.univ fun i : Fin ((K (F := F)).nSub 0) => tileRes TB IX (GO TB IX) d (Fin.cast nCore_zero c) (Fin.cast nSub_zero i))
          -∗ coreRes TB IX (GO TB IX) d (Fin.cast nCore_zero c)))
  rw [tile_split, tile_split]
  iintro H; imodintro
  isplitl [H]; · iexact H
  iintro H; iexact H

theorem st0_eq (d : Dev nD) : (bigSep Finset.univ fun c : Fin ((K (F := F)).nCore 0) => (P TB IX OB).st 0 d c)
    = iprop((tLoc d ↦{fullShare} TB d) ∗ (iLoc d ↦{fullShare} IX d) ∗ (oLoc d ↦{fullShare} OB d)) := (core_split TB IX OB d).symm
theorem dn0_eq (d : Dev nD) : (bigSep Finset.univ fun c : Fin ((K (F := F)).nCore 0) => (P TB IX OB).dn 0 d c)
    = iprop((tLoc d ↦{fullShare} TB d) ∗ (iLoc d ↦{fullShare} IX d) ∗ (oLoc d ↦{fullShare} GO TB IX d)) := (core_split TB IX (GO TB IX) d).symm

end Cert.Proof.KNN

end
-- ==== Proof.Tile.lean ====
/-
  The task of one tile: it fetches its 512 list entries, gathers the 512 table rows they name in four chunks of 128, each
  on its own semaphore, and copies each chunk out when it has landed; the four copies out share one semaphore and are
  counted as one batch.
-/
module

public import proofs.«01_k».proof.Proof.Setup

@[expose] public section

noncomputable section

namespace Cert.Proof.KNN

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v0_0_scv : Memref Cert.KernelIdeal.sig Kind.scVector Space.hbm Cert.KernelIdeal.S8192x128 EltTy.f32)
local notation "iV" => (Memref.whole Cert.KernelIdeal.main_v1_scv : Memref Cert.KernelIdeal.sig Kind.scVector Space.hbm Cert.KernelIdeal.S16384 EltTy.i32)
local notation "oV" => (Memref.whole Cert.KernelIdeal.main_v2_scv : Memref Cert.KernelIdeal.sig Kind.scVector Space.hbm Cert.KernelIdeal.S16384x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

variable (TB : (d : Dev nD) → Buf (Elt F) (tLoc d)) (IX : (d : Dev nD) → Buf (Elt F) (iLoc d)) (OB : (d : Dev nD) → Buf (Elt F) (oLoc d))

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

/-! ## The views the task addresses -/

abbrev iK (L : grid1.Coords) : Memref sig .scVector .hbm S512 .i32 := (iV).slice (Rect.unit (s := S16384) (k1_off1 L) S512.size (k1_off1_inb L)) (fun _ => rfl)
abbrev tK : Memref sig .scVector .hbm S8192x128 .f32 := (tV).slice (Rect.unit (s := S8192x128) ![0, 0] S8192x128.size inb_S8192x128_S8192x128_0_0) (fun _ => rfl)
abbrev oK (L : grid1.Coords) (k : Fin 4) : Memref sig .scVector .hbm S128x128 .f32 :=
  (oV).slice (Rect.unit (s := S16384x128) (k1_off2 L (BitVec.ofNat 32 (128 * k.val))) S128x128.size (k1_off2_inb L k)) (fun _ => rfl)

theorem rinb (k : Fin 4) : ∀ a, (![128 * k.val, 0] : Fin 2 → ℕ) a + S128x128.size a ≤ S512x128.size a := by
  revert k; decide
theorem sinb (k : Fin 4) : ∀ a, (![128 * k.val] : Fin 1 → ℕ) a + S128.size a ≤ S512.size a := by
  revert k; decide
abbrev rK (k : Fin 4) : Memref sig .scVector .vmem S128x128 .f32 :=
  (rV).slice (Rect.unit (s := S512x128) ![128 * k.val, 0] S128x128.size (rinb k)) (fun _ => rfl)
abbrev sK (k : Fin 4) : Memref sig .scVector .vmem S128 .i32 :=
  (sV).slice (Rect.unit (s := S512) ![128 * k.val] S128.size (sinb k)) (fun _ => rfl)

theorem rdiv : 4 ∣ S512x128.size 0 := ⟨128, rfl⟩
theorem sdiv : 4 ∣ S512.size 0 := ⟨128, rfl⟩

theorem set_oK (k : Fin 4) : (oK L k).view.set = oBlk (blk (cL L) (jL L) k) := by
  have e : (Rect.unit (s := S16384x128) (k1_off2 L (BitVec.ofNat 32 (128 * k.val))) S128x128.size (k1_off2_inb L k))
      = Rect.part (s := S16384x128) (a₀ := 0) odiv (blk (cL L) (jL L) k) := by
    unfold Rect.part Rect.block
    congr 1 <;> funext a
    · rw [k1_off2_eq]
      match a with
      | 0 => simp [Shape.partIx, Shape.partSize, blk]; omega
      | 1 => simp [Shape.partIx, Shape.partSize]
    · match a with
      | 0 => simp [Shape.partSize]
      | 1 => simp [Shape.partSize]
  show ((View.whole (main_v2_scv : Ref sig .scVector)).slice _).set = _
  rw [View.set_slice]; exact Finset.map_refl.trans (congrArg (fun r : Rect S16384x128 => r.set) e)

theorem set_rK (k : Fin 4) : (rK k).view.set = (Rect.part (s := S512x128) (a₀ := 0) rdiv k).set := by
  have e : (Rect.unit (s := S512x128) ![128 * k.val, 0] S128x128.size (rinb k)) = Rect.part (s := S512x128) (a₀ := 0) rdiv k := by
    unfold Rect.part Rect.block
    congr 1 <;> funext a
    · match a with
      | 0 => simp [Shape.partIx, Shape.partSize]; omega
      | 1 => simp [Shape.partIx, Shape.partSize]
    · match a with
      | 0 => simp [Shape.partSize]
      | 1 => simp [Shape.partSize]
  show ((View.whole (cc1_scratch1 : Ref sig .scVector)).slice _).set = _
  rw [View.set_slice, ← e]; exact Finset.map_refl

theorem set_sK (k : Fin 4) : (sK k).view.set = (Rect.part (s := S512) (a₀ := 0) sdiv k).set := by
  have e : (Rect.unit (s := S512) ![128 * k.val] S128.size (sinb k)) = Rect.part (s := S512) (a₀ := 0) sdiv k := by
    unfold Rect.part Rect.block
    congr 1 <;> funext a
    · match a with
      | 0 => simp [Shape.partIx, Shape.partSize]; omega
    · match a with
      | 0 => simp [Shape.partSize]
  show ((View.whole (cc1_scratch0 : Ref sig .scVector)).slice _).set = _
  rw [View.set_slice, ← e]; exact Finset.map_refl

abbrev thr (d : Dev nD) (L : grid1.Coords) : Thread nD τ := V d (cV L) (jV L)
abbrev rLoc (d : Dev nD) (L : grid1.Coords) : Loc nD τ sig := (thr d L).loc cc1_scratch1
abbrev sLoc (d : Dev nD) (L : grid1.Coords) : Loc nD τ sig := (thr d L).loc cc1_scratch0

/-- The row scratch whole is its four chunks, at one contents; -/
theorem rows_split (f : Buf (Elt F) (rLoc d L)) :
    (rLoc d L ↦{fullShare} f : sProp 𝕄) = bigSep Finset.univ fun k : Fin 4 => (rK k).view.loc (thr d L) ↦[(rK k).view.set]{fullShare} f := by
  rw [bigSep_congr (Ψ := fun k : Fin 4 => (rLoc d L ↦[(Rect.part (s := S512x128) (a₀ := 0) rdiv k).set]{fullShare} f : sProp 𝕄)) fun k _ => by rw [set_rK],
    ← pointsTo_biUnion Finset.univ (ℓ := rLoc d L) (fun k : Fin 4 => (Rect.part (s := S512x128) (a₀ := 0) rdiv k).set) (fun i _ j _ h => Rect.part_disjoint rdiv h),
    Rect.biUnion_part rdiv]; try rfl

/-- and four chunks at their own contents make it whole at some. -/
theorem rows_join (fs : Fin 4 → Buf (Elt F) (rLoc d L)) :
    (bigSep Finset.univ fun k : Fin 4 => (rK k).view.loc (thr d L) ↦[(rK k).view.set]{fullShare} fs k) ⊢ (iprop(∃ f, rLoc d L ↦{fullShare} f) : sProp 𝕄) := by
  rw [bigSep_congr (Ψ := fun k : Fin 4 => (rLoc d L ↦[(Rect.part (s := S512x128) (a₀ := 0) rdiv k).set]{fullShare} fs k : sProp 𝕄)) fun k _ => by rw [set_rK]]
  refine (pointsTo_biUnion_join (ℓ := rLoc d L) (q := fullShare) (Val := Elt F) Finset.univ
    (fun k : Fin 4 => (Rect.part (s := S512x128) (a₀ := 0) rdiv k).set) fs (fs 0) (fun i _ j _ h => Rect.part_disjoint rdiv h)).trans ?_
  rw [Rect.biUnion_part rdiv]
  iintro ⟨%g, -, H⟩
  iexists g; iexact H

/-- The list scratch whole is its four chunks. -/
theorem list_split (f : Buf (Elt F) (sLoc d L)) :
    (sLoc d L ↦{fullShare} f : sProp 𝕄) = bigSep Finset.univ fun k : Fin 4 => (sK k).view.loc (thr d L) ↦[(sK k).view.set]{fullShare} f := by
  rw [bigSep_congr (Ψ := fun k : Fin 4 => (sLoc d L ↦[(Rect.part (s := S512) (a₀ := 0) sdiv k).set]{fullShare} f : sProp 𝕄)) fun k _ => by rw [set_sK],
    ← pointsTo_biUnion Finset.univ (ℓ := sLoc d L) (fun k : Fin 4 => (Rect.part (s := S512) (a₀ := 0) sdiv k).set) (fun i _ j _ h => Rect.part_disjoint sdiv h),
    Rect.biUnion_part sdiv]; try rfl

theorem bigSep4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## What the fetch and the gathers land -/

/-- The list scratch after the fetch: entry `i` is entry `512 (2 s + c) + i` of the list. -/
abbrev lst (fs : Buf (Elt F) (sLoc d L)) : Buf (Elt F) (sLoc d L) :=
  (sV).view.write (Elt F) fs (ReadAs.same.apply ((iK L).view.read (Elt F) (IX d))) Finset.univ

theorem lst_read (fs : Buf (Elt F) (sLoc d L)) (k : Fin 4) (y : S128.Idx) :
    (sK k).view.read (Elt F) (lst IX d L fs) y = IX d (fun | 0 => (⟨1024 * (L 1).val + 512 * (L 0).val + 128 * k.val + (y 0).val, by
      have := (L 1).isLt; have := (L 0).isLt; have := (y 0).isLt; have := k.isLt
      simp at *; omega⟩ : Fin 16384)) := by
  have e1 : (sK k).view.read (Elt F) (lst IX d L fs) y = lst IX d L fs ((sK k).view.emb y) := (View.read_apply _ _).trans (cast_eq _ _)
  rw [e1]
  unfold lst
  rw [View.write_whole_univ]
  show IX d ((iK L).view.emb ((sK k).view.emb y)) = _
  congr 1
  funext a
  match a with
  | 0 =>
    refine Fin.ext ?_
    show (k1_off1 L) 0 + 1 * ((128 * k.val + 1 * (y 0).val)) = 1024 * (L 1).val + 512 * (L 0).val + 128 * k.val + (y 0).val
    rw [k1_off1_eq]
    show 1024 * (L 1).val + 512 * (L 0).val + _ = _
    omega

theorem lst_ok (hpre : IxOK IX) (fs : Buf (Elt F) (sLoc d L)) (k : Fin 4) :
    ∀ x, ((sK k).view.read (Elt F) (lst IX d L fs) x).toNat < S8192x128.size gathers_S8192x128_S128x128.axis := by
  intro x; rw [lst_read]; exact hpre d _

/-- Chunk `k`'s rows. -/
abbrev pay (hpre : IxOK IX) (fs : Buf (Elt F) (sLoc d L)) (k : Fin 4) : S128x128.Idx → Elt F .f32 :=
  SparseCore.gatherPayload gathers_S8192x128_S128x128 ((tK).view.read (Elt F) (TB d))
    (SparseCore.rows ((sK k).view.read (Elt F) (lst IX d L fs)) rfl (lst_ok IX d L hpre fs k))

theorem pay_eq (hpre : IxOK IX) (fs : Buf (Elt F) (sLoc d L)) (k : Fin 4) (x : S128x128.Idx) :
    pay TB IX d L hpre fs k x = GO TB IX d ((oK L k).view.emb x) := by
  have e2 : ((oK L k).view.emb x) = (fun
      | 0 => (⟨1024 * (L 1).val + 512 * (L 0).val + 128 * k.val + (x 0).val, by
        have := (L 1).isLt; have := (L 0).isLt; have := (x 0).isLt; have := k.isLt
        simp at *; omega⟩ : Fin 16384)
      | 1 => (x 1 : Fin 128)) := by
    funext a
    match a with
    | 0 =>
      refine Fin.ext ?_
      show (k1_off2 L (BitVec.ofNat 32 (128 * k.val))) 0 + 1 * (x 0).val = _
      rw [k1_off2_eq]
      show 1024 * (L 1).val + 512 * (L 0).val + 128 * k.val + 1 * (x 0).val = 1024 * (L 1).val + 512 * (L 0).val + 128 * k.val + (x 0).val
      omega
    | 1 =>
      refine Fin.ext ?_
      show (k1_off2 L (BitVec.ofNat 32 (128 * k.val))) 1 + 1 * (x 1).val = (x 1).val
      rw [k1_off2_eq]
      show 0 + 1 * (x 1).val = (x 1).val
      omega
  rw [e2]
  have e3 : ∀ z, (tK).view.read (Elt F) (TB d) z = TB d ((tK).view.emb z) := fun z => (View.read_apply _ _).trans (cast_eq _ _)
  unfold pay SparseCore.gatherPayload
  rw [e3]
  show TB d _ = TB d _
  congr 1
  funext a
  match a with
  | 0 =>
    refine Fin.ext ?_
    show 0 + 1 * (gathers_S8192x128_S128x128.idx _ x 0).val = (IX d _).toNat % 8192
    rw [Nat.mod_eq_of_lt (hpre d _)]
    have h1 := Shape.Gathers.idx_axis gathers_S8192x128_S128x128 (SparseCore.rows ((sK k).view.read (Elt F) (lst IX d L fs)) rfl (lst_ok IX d L hpre fs k)) x
    refine (Nat.zero_add _).trans ((Nat.one_mul _).trans ((congrArg Fin.val h1).trans ?_))
    unfold SparseCore.rows
    show ((sK k).view.read (Elt F) (lst IX d L fs) _).toNat = _
    rw [lst_read]
    have h2 : ∀ n : Fin S128.numel, (S128.rowMajor.symm n 0).val = n.val := fun n => by
      have h := Shape.rowMajor_val_one (S128.rowMajor.symm n)
      rw [← h]; exact congrArg Fin.val (S128.rowMajor.apply_symm_apply n)
    congr 2
    funext b
    match b with
    | 0 =>
      refine Fin.ext ?_
      show 1024 * (L 1).val + 512 * (L 0).val + 128 * k.val + (S128.rowMajor.symm _ 0).val = 1024 * (L 1).val + 512 * (L 0).val + 128 * k.val + (x 0).val
      rw [h2]; rfl
  | 1 =>
    refine Fin.ext ?_
    show 0 + 1 * (gathers_S8192x128_S128x128.idx _ x 1).val = (x 1).val
    rw [Shape.Gathers.idx_of_ne _ _ _ _ (by decide)]
    show 0 + 1 * (x 1).val = _
    omega

/-- A copy out of a landed chunk leaves the chunk's block of the output at the gathered rows. -/
theorem out_eq (hpre : IxOK IX) (fs : Buf (Elt F) (sLoc d L)) (fr : Buf (Elt F) (rLoc d L)) (fo : Buf (Elt F) (oLoc d)) (k : Fin 4) :
    (((oK L k).view.loc (thr d L) ↦[(oK L k).view.set]{fullShare} (oK L k).view.write (Elt F) fo (ReadAs.same.apply ((rK k).view.read (Elt F)
        ((rK k).view.write (Elt F) fr (pay TB IX d L hpre fs k) Finset.univ))) Finset.univ) : sProp 𝕄)
      = oLoc d ↦[oBlk (blk (cL L) (jL L) k)]{fullShare} GO TB IX d := by
  rw [← set_oK L k]
  refine pointsTo_congr fun i hi => ?_
  obtain ⟨x, -, rfl⟩ := Finset.mem_map.mp hi
  rw [View.read_write_univ, View.write_emb_of_mem _ _ (Finset.mem_univ x)]
  exact (cast_eq _ _).trans (pay_eq TB IX d L hpre fs k x)

/-- What the batch of copies out delivers: block `k` of the output at the gathered rows, chunk `k` of the row scratch back. -/
def DL (k : Fin 4) : sProp 𝕄 :=
  iprop((oLoc d ↦[oBlk (blk (cL L) (jL L) k)]{fullShare} GO TB IX d) ∗ ∃ f, rLoc d L ↦[(rK k).view.set]{fullShare} f)
set_option synthInstance.maxHeartbeats 400000 in
instance (k : Fin 4) : BI.Storable (upEmb : UEmb _ 𝕄) (DL TB IX d L k) := by unfold DL; infer_instance

theorem chunk_pos : 0 < S128x128.numel := Finset.prod_pos fun a _ => by match a with | 0 => exact Nat.zero_lt_succ _ | 1 => exact Nat.zero_lt_succ _
/-- What one copy out credits the shared semaphore. -/
@[irreducible] def NB (L : grid1.Coords) : ℕ := (oK L 0).view.dmaCredit
theorem ocredit (k : Fin 4) : (oK L k).view.amount (.dma cc1_scratch6.sem : SemLoc sig) = NB L := by unfold NB; rfl
theorem ocredit' (k : Fin 4) : (oK L k).view.dmaCredit = NB L := by unfold NB; rfl
theorem NB_pos : 0 < NB L := by unfold NB; exact View.dmaCredit_pos _ chunk_pos

theorem rows_join' : (iprop((∃ f, rLoc d L ↦[(rK 0).view.set]{fullShare} f) ∗ (∃ f, rLoc d L ↦[(rK 1).view.set]{fullShare} f)
      ∗ (∃ f, rLoc d L ↦[(rK 2).view.set]{fullShare} f) ∗ (∃ f, rLoc d L ↦[(rK 3).view.set]{fullShare} f)) : sProp 𝕄)
    ⊢ iprop(∃ f, rLoc d L ↦{fullShare} f) := by
  iintro ⟨⟨%f0, H0⟩, ⟨%f1, H1⟩, ⟨%f2, H2⟩, ⟨%f3, H3⟩⟩
  iapply (rows_join d L (fun | 0 => f0 | 1 => f1 | 2 => f2 | 3 => f3))
  iapply (Entails.of_eq (bigSep4 _).symm)
  isplitl [H0]; · iexact H0
  isplitl [H1]; · iexact H1
  isplitl [H2]; · iexact H2
  iexact H3

theorem pts_oK (f : Buf (Elt F) (oLoc d)) (k : Fin 4) : ((oK L k).view.loc (thr d L) ↦[(oK L k).view.set]{fullShare} f : sProp 𝕄)
    = oLoc d ↦[oBlk (blk (cL L) (jL L) k)]{fullShare} f := by rw [set_oK]

theorem deliver (hpre : IxOK IX) (fs : Buf (Elt F) (sLoc d L)) (fr : Buf (Elt F) (rLoc d L)) (fo : Buf (Elt F) (oLoc d)) (k : Fin 4) :
    (iprop(((oK L k).view.loc (thr d L) ↦[(oK L k).view.set]{fullShare} (oK L k).view.write (Elt F) fo (ReadAs.same.apply ((rK k).view.read (Elt F)
        ((rK k).view.write (Elt F) fr (pay TB IX d L hpre fs k) Finset.univ))) Finset.univ)
      ∗ ((rK k).view.loc (thr d L) ↦[(rK k).view.set]{fullShare} ((rK k).view.write (Elt F) fr (pay TB IX d L hpre fs k) Finset.univ))) : sProp 𝕄) ⊢ DL TB IX d L k := by
  rw [out_eq]; unfold DL
  iintro ⟨H, Hr⟩
  isplitl [H]; · iexact H
  iexists _; iexact Hr

/-! ## The tile's semaphores and scratch -/

abbrev cellOf' (d : Dev nD) (L : grid1.Coords) (a : DmaSems sig S_) : GSem nD τ sig := (thr d L, .dma a.sem)

theorem mem_cell (a : DmaSems sig S_) (h : (SemLoc.dma a.sem : SemLoc sig).isScoped .scVector = true) :
    cellOf' d L a ∈ ownCells (thr d L) := (mem_ownCells (g := cellOf' d L a)).mpr ⟨rfl, h⟩

abbrev restCells (d : Dev nD) (L : grid1.Coords) : Finset (GSem nD τ sig) :=
  ((((((ownCells (thr d L)).erase (cellOf' d L cc1_scratch2)).erase (cellOf' d L cc1_scratch3)).erase (cellOf' d L cc1_scratch4)).erase
    (cellOf' d L cc1_scratch5)).erase (cellOf' d L cc1_scratch6)).erase (cellOf' d L cc1_scoped0)

theorem cell_ne {a b : DmaSems sig S_} (h : a.sem ≠ b.sem) : cellOf' d L a ≠ cellOf' d L b := fun e => h (SemLoc.dma.inj (Prod.mk.inj e).2)

theorem ownSems0_V :
    (ownSems0 (thr d L) : sProp 𝕄)
      = iprop(semVal (cellOf' d L cc1_scratch2) 0 ∗ semVal (cellOf' d L cc1_scratch3) 0 ∗ semVal (cellOf' d L cc1_scratch4) 0 ∗ semVal (cellOf' d L cc1_scratch5) 0
          ∗ semVal (cellOf' d L cc1_scratch6) 0 ∗ semVal (cellOf' d L cc1_scoped0) 0 ∗ bigSep (restCells d L) fun g => semVal g 0) := by
  unfold SparseCore.Cfg.ownSems0
  rw [SparseCore.bigSep_erase' (i := cellOf' d L cc1_scratch2) (mem_cell d L _ (by decide)),
    SparseCore.bigSep_erase' (i := cellOf' d L cc1_scratch3) (Finset.mem_erase.mpr ⟨cell_ne d L (by decide), mem_cell d L _ (by decide)⟩),
    SparseCore.bigSep_erase' (i := cellOf' d L cc1_scratch4) (Finset.mem_erase.mpr ⟨cell_ne d L (by decide), Finset.mem_erase.mpr ⟨cell_ne d L (by decide), mem_cell d L _ (by decide)⟩⟩),
    SparseCore.bigSep_erase' (i := cellOf' d L cc1_scratch5) (Finset.mem_erase.mpr ⟨cell_ne d L (by decide), Finset.mem_erase.mpr ⟨cell_ne d L (by decide),
      Finset.mem_erase.mpr ⟨cell_ne d L (by decide), mem_cell d L _ (by decide)⟩⟩⟩),
    SparseCore.bigSep_erase' (i := cellOf' d L cc1_scratch6) (Finset.mem_erase.mpr ⟨cell_ne d L (by decide), Finset.mem_erase.mpr ⟨cell_ne d L (by decide),
      Finset.mem_erase.mpr ⟨cell_ne d L (by decide), Finset.mem_erase.mpr ⟨cell_ne d L (by decide), mem_cell d L _ (by decide)⟩⟩⟩⟩),
    SparseCore.bigSep_erase' (i := cellOf' d L cc1_scoped0) (Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide), mem_cell d L _ (by decide)⟩⟩⟩⟩⟩)]

abbrev restBufs (d : Dev nD) (L : grid1.Coords) : Finset (DevRef τ sig) :=
  ((ownRefs (τ := τ) (.scVector (cV L) (jV L))).erase ((Proc.scVector (cV L) (jV L)).devRef cc1_scratch0)).erase ((Proc.scVector (cV L) (jV L)).devRef cc1_scratch1)

theorem ownBufs_V :
    (ownBufs (thr d L) : sProp 𝕄)
      = iprop((∃ f, sLoc d L ↦{fullShare} f) ∗ (∃ f, rLoc d L ↦{fullShare} f)
          ∗ bigSep (restBufs d L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The task -/

theorem gcredit (k : Fin 4) : ∑ j, ((rK k).slice (S128x128.rowRect gathers_S8192x128_S128x128.axis' j) (S128x128.stride_rowRect gathers_S8192x128_S128x128.axis' j)).view.dmaCredit
    = (rK k).view.dmaCredit := by revert k; decide

theorem pts_tile (q : PosShare TreeShare) (f : Buf (Elt F) (tLoc d)) : ((tV).view.loc (thr d L) ↦{q} f : sProp 𝕄) = tLoc d ↦{q} f := rfl

set_option maxHeartbeats 4000000 in
set_option maxRecDepth 16384 in
theorem tile_body [FloatOps F] (hF : (K (F := F)).Facts) (hpre : IxOK IX) (O : CellTallies nD τ sig (HIx 1)) (W : Waits sig (HIx 1)) (hO : ∀ g, O g none = 0) :
    iprop(levAts (K (F := F)).L (K (F := F)).lev ∗ emp ∗ tileRes TB IX OB d (cL L) (jL L)
        ∗ scopedBufs (thr d L) ∗ scopedSems0 (thr d L) ∗ owes (thr d L) O W)
      ⊢ wp frame (wpE (defs₀ (F := F)) 𝒱₀ (thr d L) none) Set.univ
          (cc1_gather_kernel L tV (Memref.isWhole_whole _) iV (Memref.isWhole_whole _) oV (Memref.isWhole_whole _)
            sV (Memref.isWhole_whole _) rV (Memref.isWhole_whole _) cc1_scratch2 cc1_scratch3 cc1_scratch4 cc1_scratch5 cc1_scratch6 cc1_scoped0)
          fun _ => iprop(tileRes TB IX (GO TB IX) d (cL L) (jL L)
            ∗ scopedBufs (thr d L) ∗ scopedSems0 (thr d L)
            ∗ ∃ W', ⌜∀ p ∈ W', p ∈ W ∨ p.2 = none⌝ ∗ owes (thr d L) O W') := by
  simp only [cc1_gather_kernel_eq_skeleton]; unfold cc1_gather_kernel_skel
  simp only [k1_part1_eq_skeleton, k1_part2_eq_skeleton, k1_part3_eq_skeleton]; unfold k1_part1_skel k1_part2_skel k1_part3_skel
  rw [(K (F := F)).scopedBufs_V hF d (cV L) (jV L), SparseCore.Cfg.scopedSems0_V (Val := Elt F) d (cV L) (jV L), ownSems0_V, ownBufs_V]
  unfold tileRes
  iintro ⟨#Hlv, -, ⟨Ht, Hi, Ho⟩, ⟨⟨%fs, Hs⟩, ⟨%fr, Hr⟩, Hbufs⟩, ⟨Hc0, Hc1, Hc2, Hc3, Hc4, Hc5, Hsems⟩, HO⟩
  ihave Hmw := (show levAts (K (F := F)).L (K (F := F)).lev ⊢ Transfers.MayWaits (thr d L) (default : HIx 1) O from
    (K (F := F)).mayWaits_none (thr := thr d L) hO) $$ Hlv
  imod (Transfers.batch_alloc' countersEmb (thr d L) (default : HIx 1) (NB L) (DL TB IX d L) (sm := .dma cc1_scratch6.sem) (E := Set.univ)) $$ Hc4 with Hb
  ihave Hi' := (Entails.of_eq (show (iLoc d ↦{tq (cL L) (jL L)} IX d : sProp 𝕄) = (iV).view.loc (thr d L) ↦{tq (cL L) (jL L)} IX d from rfl)) $$ Hi
  ihave Hs' := (Entails.of_eq (show (sLoc d L ↦{fullShare} fs : sProp 𝕄) = (sV).view.loc (thr d L) ↦{fullShare} fs from rfl)) $$ Hs
  sl_exec
  ihave Hs2 := (Entails.of_eq (show ((sV).view.loc (thr d L) ↦{fullShare} View.write (Elt F) (sV).view fs (tile_body.sl.dma0 IX d L) Finset.univ : sProp 𝕄)
    = sLoc d L ↦{fullShare} lst IX d L fs from rfl)) $$ Hs'
  ihave Hl := (Entails.of_eq ((list_split d L (lst IX d L fs)).trans (bigSep4 _))) $$ Hs2
  icases Hl with ⟨Hl0, Hl1, Hl2, Hl3⟩
  ihave Hrs := (Entails.of_eq ((rows_split d L fr).trans (bigSep4 _))) $$ Hr
  icases Hrs with ⟨Hr0, Hr1, Hr2, Hr3⟩
  ihave Hos := (Entails.of_eq (bigSep4 _)) $$ Ho
  icases Hos with ⟨Ho0, Ho1, Ho2, Ho3⟩
  ihave Hts := (pointsTo_split_subset (q := tq (cL L) (jL L)) (f := TB d) (S := Finset.univ) (Finset.subset_univ (tK).view.set)).1 $$ Ht
  icases Hts with ⟨Hts, Htr⟩
  ihave Htp := (Entails.of_eq ((pointsTo_piecesOf (tK).view.set (TB d) (by decide : 0 < 4) (tq (cL L) (jL L))).trans (bigSep4 _))) $$ Hts
  icases Htp with ⟨Ht0, Ht1, Ht2, Ht3⟩
  iapply (SparseCore.wp_indirectGatherLocal countersEmb 𝒱₀ (thr d L) none (hg := gathers_S8192x128_S128x128) (dst := rK 0) (offs := sK 0) (default : HIx 1)
      (rK 0).view.dmaCredit (gcredit 0) chunk_pos (lst_ok IX d L hpre fs 0)) $$ [Ht0 Hr0 Hl0 Hc0]
  · isplitl [Ht0]; · iexact Ht0
    isplitl [Hr0]; · iexact Hr0
    isplitl [Hl0]; · iexact Hl0
    iexact Hc0
  iintro Hf0
  sl_exec
  iapply (SparseCore.wp_indirectGatherLocal countersEmb 𝒱₀ (thr d L) none (hg := gathers_S8192x128_S128x128) (dst := rK 1) (offs := sK 1) (default : HIx 1)
      (rK 1).view.dmaCredit (gcredit 1) chunk_pos (lst_ok IX d L hpre fs 1)) $$ [Ht1 Hr1 Hl1 Hc1]
  · isplitl [Ht1]; · iexact Ht1
    isplitl [Hr1]; · iexact Hr1
    isplitl [Hl1]; · iexact Hl1
    iexact Hc1
  iintro Hf1
  sl_exec
  iapply (SparseCore.wp_indirectGatherLocal countersEmb 𝒱₀ (thr d L) none (hg := gathers_S8192x128_S128x128) (dst := rK 2) (offs := sK 2) (default : HIx 1)
      (rK 2).view.dmaCredit (gcredit 2) chunk_pos (lst_ok IX d L hpre fs 2)) $$ [Ht2 Hr2 Hl2 Hc2]
  · isplitl [Ht2]; · iexact Ht2
    isplitl [Hr2]; · iexact Hr2
    isplitl [Hl2]; · iexact Hl2
    iexact Hc2
  iintro Hf2
  sl_exec
  iapply (SparseCore.wp_indirectGatherLocal countersEmb 𝒱₀ (thr d L) none (hg := gathers_S8192x128_S128x128) (dst := rK 3) (offs := sK 3) (default : HIx 1)
      (rK 3).view.dmaCredit (gcredit 3) chunk_pos (lst_ok IX d L hpre fs 3)) $$ [Ht3 Hr3 Hl3 Hc3]
  · isplitl [Ht3]; · iexact Ht3
    isplitl [Hr3]; · iexact Hr3
    isplitl [Hl3]; · iexact Hl3
    iexact Hc3
  iintro Hf3
  sl_exec
  iapply (Transfers.wp_waitLocalO countersEmb 𝒱₀ (thr d L) none (default : HIx 1) (rfl : (rK 0).view.dmaCredit = _)) $$ [Hf0 HO]
  · isplitl [Hf0]; · iexact Hf0
    isplitl [HO]; · iexact HO
    iapply (Transfers.MayWaits.elim (SemLoc.dma cc1_scratch2.sem)) $$ Hmw
  iintro ⟨⟨Hr0, Ht0, Hl0⟩, Hc0, HO⟩
  sl_exec
  ihave Ho0' := (Entails.of_eq (pts_oK d L _ 0).symm) $$ Ho0
  iapply (Transfers.wp_dmaBatch countersEmb 𝒱₀ (thr d L) none (dst := oK L 0) (src := rK 0) (via := ReadAs.same) (D := DL TB IX d L) (j := 0) (u := 0)
      (default : HIx 1) (NB L) (ocredit L 0) (Finset.Subset.refl _) (by decide) (Nat.zero_le _) (deliver TB IX d L hpre fs fr (OB d) 0)) $$ [Hr0 Ho0' Hb]
  · isplitl [Hr0]; · iexact Hr0
    isplitl [Ho0']; · iexact Ho0'
    iexact Hb
  iintro Hb
  sl_exec
  iapply (Transfers.wp_waitLocalO countersEmb 𝒱₀ (thr d L) none (default : HIx 1) (rfl : (rK 1).view.dmaCredit = _)) $$ [Hf1 HO]
  · isplitl [Hf1]; · iexact Hf1
    isplitl [HO]; · iexact HO
    iapply (Transfers.MayWaits.elim (SemLoc.dma cc1_scratch3.sem)) $$ Hmw
  iintro ⟨⟨Hr1, Ht1, Hl1⟩, Hc1, HO⟩
  sl_exec
  ihave Ho1' := (Entails.of_eq (pts_oK d L _ 1).symm) $$ Ho1
  iapply (Transfers.wp_dmaBatch countersEmb 𝒱₀ (thr d L) none (dst := oK L 1) (src := rK 1) (via := ReadAs.same) (D := DL TB IX d L) (j := 1) (u := 0)
      (default : HIx 1) (NB L) (ocredit L 1) (Finset.Subset.refl _) (by decide) (Nat.zero_le _) (deliver TB IX d L hpre fs fr (OB d) 1)) $$ [Hr1 Ho1' Hb]
  · isplitl [Hr1]; · iexact Hr1
    isplitl [Ho1']; · iexact Ho1'
    iexact Hb
  iintro Hb
  sl_exec
  iapply (Transfers.wp_waitLocalO countersEmb 𝒱₀ (thr d L) none (default : HIx 1) (rfl : (rK 2).view.dmaCredit = _)) $$ [Hf2 HO]
  · isplitl [Hf2]; · iexact Hf2
    isplitl [HO]; · iexact HO
    iapply (Transfers.MayWaits.elim (SemLoc.dma cc1_scratch4.sem)) $$ Hmw
  iintro ⟨⟨Hr2, Ht2, Hl2⟩, Hc2, HO⟩
  sl_exec
  ihave Ho2' := (Entails.of_eq (pts_oK d L _ 2).symm) $$ Ho2
  iapply (Transfers.wp_dmaBatch countersEmb 𝒱₀ (thr d L) none (dst := oK L 2) (src := rK 2) (via := ReadAs.same) (D := DL TB IX d L) (j := 2) (u := 0)
      (default : HIx 1) (NB L) (ocredit L 2) (Finset.Subset.refl _) (by decide) (Nat.zero_le _) (deliver TB IX d L hpre fs fr (OB d) 2)) $$ [Hr2 Ho2' Hb]
  · isplitl [Hr2]; · iexact Hr2
    isplitl [Ho2']; · iexact Ho2'
    iexact Hb
  iintro Hb
  sl_exec
  iapply (Transfers.wp_waitLocalO countersEmb 𝒱₀ (thr d L) none (default : HIx 1) (rfl : (rK 3).view.dmaCredit = _)) $$ [Hf3 HO]
  · isplitl [Hf3]; · iexact Hf3
    isplitl [HO]; · iexact HO
    iapply (Transfers.MayWaits.elim (SemLoc.dma cc1_scratch5.sem)) $$ Hmw
  iintro ⟨⟨Hr3, Ht3, Hl3⟩, Hc3, HO⟩
  sl_exec
  ihave Ho3' := (Entails.of_eq (pts_oK d L _ 3).symm) $$ Ho3
  iapply (Transfers.wp_dmaBatch countersEmb 𝒱₀ (thr d L) none (dst := oK L 3) (src := rK 3) (via := ReadAs.same) (D := DL TB IX d L) (j := 3) (u := 0)
      (default : HIx 1) (NB L) (ocredit L 3) (Finset.Subset.refl _) (by decide) (Nat.zero_le _) (deliver TB IX d L hpre fs fr (OB d) 3)) $$ [Hr3 Ho3' Hb]
  · isplitl [Hr3]; · iexact Hr3
    isplitl [Ho3']; · iexact Ho3'
    iexact Hb
  iintro Hb
  sl_exec
  iapply (Transfers.wp_waitBatchO countersEmb 𝒱₀ (thr d L) none (D := DL TB IX d L) (u := 0) (default : HIx 1) (ocredit' L 0) (by have := NB_pos L; omega)) $$ [Hb HO]
  · isplitl [Hb]; · iexact Hb
    isplitl [HO]; · iexact HO
    iapply (Transfers.MayWaits.elim (SemLoc.dma cc1_scratch6.sem)) $$ Hmw
  iintro ⟨Hb, HO⟩
  sl_exec
  iapply (Transfers.wp_waitBatchO countersEmb 𝒱₀ (thr d L) none (D := DL TB IX d L) (u := 0 + NB L) (default : HIx 1) (ocredit' L 1) (by have := NB_pos L; omega)) $$ [Hb HO]
  · isplitl [Hb]; · iexact Hb
    isplitl [HO]; · iexact HO
    iapply (Transfers.MayWaits.elim (SemLoc.dma cc1_scratch6.sem)) $$ Hmw
  iintro ⟨Hb, HO⟩
  sl_exec
  iapply (Transfers.wp_waitBatchO countersEmb 𝒱₀ (thr d L) none (D := DL TB IX d L) (u := 0 + NB L + NB L) (default : HIx 1) (ocredit' L 2) (by have := NB_pos L; omega)) $$ [Hb HO]
  · isplitl [Hb]; · iexact Hb
    isplitl [HO]; · iexact HO
    iapply (Transfers.MayWaits.elim (SemLoc.dma cc1_scratch6.sem)) $$ Hmw
  iintro ⟨Hb, HO⟩
  iapply (Transfers.wp_waitBatchLastO countersEmb 𝒱₀ (thr d L) none (D := DL TB IX d L) (u := 0 + NB L + NB L + NB L) (default : HIx 1) (ocredit' L 3) (NB_pos L) (by have := NB_pos L; omega)) $$ [Hb HO]
  · isplitl [Hb]; · iexact Hb
    isplitl [HO]; · iexact HO
    iapply (Transfers.MayWaits.elim (SemLoc.dma cc1_scratch6.sem)) $$ Hmw
  iintro ⟨Hds, Hb, HO⟩
  ihave Hds' := (Entails.of_eq (bigSep4 _)) $$ Hds
  icases Hds' with ⟨Hd0, Hd1, Hd2, Hd3⟩
  unfold DL
  icases Hd0 with ⟨Hb_dst0, Hb_src0⟩
  icases Hd1 with ⟨Hb_dst1, Hb_src1⟩
  icases Hd2 with ⟨Hb_dst2, Hb_src2⟩
  icases Hd3 with ⟨Hb_dst3, Hb_src3⟩
  simp only [Prog.bind]
  sl_step
  isplitl [Ht0 Ht1 Ht2 Ht3 Htr Hi' Hb_dst0 Hb_dst1 Hb_dst2 Hb_dst3]
  · isplitl [Ht0 Ht1 Ht2 Ht3 Htr]
    · iapply (pointsTo_split_subset (q := tq (cL L) (jL L)) (f := TB d) (S := Finset.univ) (Finset.subset_univ (tK).view.set)).2
      isplitr [Htr]
      · iapply (Entails.of_eq ((pointsTo_piecesOf (tK).view.set (TB d) (by decide : 0 < 4) (tq (cL L) (jL L))).trans (bigSep4 _)).symm)
        isplitl [Ht0]; · iexact Ht0
        isplitl [Ht1]; · iexact Ht1
        isplitl [Ht2]; · iexact Ht2
        iexact Ht3
      · iexact Htr
    isplitl [Hi']; · iexact Hi'
    iapply (Entails.of_eq (bigSep4 _).symm)
    isplitl [Hb_dst0]; · iexact Hb_dst0
    isplitl [Hb_dst1]; · iexact Hb_dst1
    isplitl [Hb_dst2]; · iexact Hb_dst2
    iexact Hb_dst3
  isplitl [Hl0 Hl1 Hl2 Hl3 Hb_src0 Hb_src1 Hb_src2 Hb_src3 Hbufs]
  · isplitl [Hl0 Hl1 Hl2 Hl3]
    · iexists _
      iapply (Entails.of_eq ((list_split d L (lst IX d L fs)).trans (bigSep4 _)).symm)
      isplitl [Hl0]; · iexact Hl0
      isplitl [Hl1]; · iexact Hl1
      isplitl [Hl2]; · iexact Hl2
      iexact Hl3
    isplitr [Hbufs]
    · iapply (rows_join' d L)
      isplitl [Hb_src0]; · iexact Hb_src0
      isplitl [Hb_src1]; · iexact Hb_src1
      isplitl [Hb_src2]; · iexact Hb_src2
      iexact Hb_src3
    iexact Hbufs
  isplitl [Hc0 Hc1 Hc2 Hc3 Hb Hc5 Hsems]
  · isplitl [Hc0]; · iexact Hc0
    isplitl [Hc1]; · iexact Hc1
    isplitl [Hc2]; · iexact Hc2
    isplitl [Hc3]; · iexact Hc3
    isplitl [Hb]; · iexact Hb
    isplitl [Hc5]; · iexact Hc5
    iexact Hsems
  iexists _; isplitr
  swap; · iexact HO
  ipureintro; intro p hp
  simp only [Finset.mem_insert] at hp
  rcases hp with hp | hp | hp | hp | hp | hp | hp | hp | hp | hp
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inr (hp ▸ rfl)
  · exact .inl hp

end Tile

end Cert.Proof.KNN

end
-- ==== Proof.Bodies.lean ====
/-
  The bodies of the two TensorCore calls, each run once over any staging buffers held whole: what each leaves in its
  result buffers is stated as a function of what its operand buffers hold.
-/
module

public import proofs.«01_k».proof.Proof.Setup
public import Idealize.ShloMosaic.Lib.VecWindow
public import Idealize.ShloMosaic.Lib.Pipeline.Value

@[expose] public section

noncomputable section

namespace Cert.Proof.KNN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F] [∀ e, Nonempty (Elt F e)]

local notation "𝕄" => MT nD τ sig (HIx 1) (Elt F) ℕ UU ℕ

/-- A staging buffer held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two chosen rows of every point of a block, as row numbers of the whole table: what the first call stores. -/
def picks (i : grid0.Coords) (X : Vec F S1x128x2048 .f32) (Y : Vec F S1x128x512 .f32) : IVec S2x1x1x512 32 :=
  k0_pay1 (BitVec.ofNat 32 (i 0).val) (k0_pay4 (F := F)) (k0_pay5 i X Y) (k0_pay7 i X Y) (k0_pay8 i X Y) (k0_pay9 (F := F))

set_option maxRecDepth 16384 in
theorem topk_run (c : Dev nD) (i : grid0.Coords) (M0 : Memref sig .tc .vmem S1x128x2048 .f32) (h0 : M0.IsWhole) (M1 : Memref sig .tc .vmem S1x128x512 .f32) (h1 : M1.IsWhole)
    (M2 : Memref sig .tc .vmem S512x128 .f32) (h2 : M2.IsWhole) (M3 : Memref sig .tc .vmem S2x1x1x512 .i32) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ))) (E : Set ℕ) (Q : PUnit → sProp 𝕄) :
    iprop(pt c M0 f0 ∗ pt c M1 f1 ∗ pt c M2 f2 ∗ pt c M3 f3
        ∗ (∀ (W2 : Buf (Elt F) (M2.view.loc (c : Thread nD τ))) (W3 : Buf (Elt F) (M3.view.loc (c : Thread nD τ))),
            iprop(⌜M2.view.read (Elt F) W2 = k0_pay2 (k0_pay3 (M1.view.read (Elt F) f1))⌝ ∗ ⌜M3.view.read (Elt F) W3 = picks i (M0.view.read (Elt F) f0) (M1.view.read (Elt F) f1)⌝
              ∗ pt c M0 f0 ∗ pt c M1 f1 ∗ pt c M2 W2 ∗ pt c M3 W3) -∗ Q ⟨⟩))
      ⊢ wp frame (wpE (defs₀ (F := F)) 𝒱₀ (c : Thread nD τ) none) E (cc0__topk_body i M0 h0 M1 h1 M2 h2 M3 h3) Q := by
  iintro ⟨H0, H1, H2, H3, Hk⟩
  rw [cc0__topk_body_eq_skeleton]
  unfold cc0__topk_body_skel
  rw [k0_part1_eq_skeleton]
  unfold k0_part1_skel
  sl_exec!
  sl_step
  ispecialize Hk $$ %(M2.view.writes (Elt F) M2.view.junk (topk_run.sl.H2_1 c M1 f1)) %(M3.view.writes (Elt F) M3.view.junk (topk_run.sl.H3_1 c i M0 M1 f0 f1))
  iapply Hk
  isplitr
  · ipureintro
    unfold topk_run.sl.H2_1
    exact (View.read_writes_full _ _ _ _ _).trans (congrArg (fun Y => k0_pay2 (k0_pay3 Y)) (View.readAt_full _ _ _))
  isplitr
  · ipureintro
    unfold topk_run.sl.H3_1
    exact (View.read_writes_full _ _ _ _ _).trans (congrArg₂ (fun X Y => picks i X Y) (View.readAt_full _ _ _) (View.readAt_full _ _ _))
  isplitl [H0]; · iexact H0
  isplitl [H1]; · iexact H1
  isplitl [H2]; · iexact H2
  iexact H3

/-- One block of the result: the three products added, the bias added, and the negative values cut to zero. -/
def convBlk (T : Vec F S1x512x128 .f32) (G : Vec F S2x1x512x128 .f32) (W : Vec F S3x128x128 .f32) (b : Vec F S1x128 .f32) : FVec F S1x128x512 .f32 :=
  k2_pay1 (View.ld W (Rect.unit (s := S3x128x128) ![0, 0, 0] S1x128x128.size inb_S3x128x128_S1x128x128_0_0_0)) T
    (View.ld W (Rect.unit (s := S3x128x128) ![1, 0, 0] S1x128x128.size inb_S3x128x128_S1x128x128_1_0_0))
    (View.ld G (Rect.unit (s := S2x1x512x128) ![0, 0, 0, 0] S1x1x512x128.size inb_S2x1x512x128_S1x1x512x128_0_0_0_0))
    (View.ld W (Rect.unit (s := S3x128x128) ![2, 0, 0] S1x128x128.size inb_S3x128x128_S1x128x128_2_0_0))
    (View.ld G (Rect.unit (s := S2x1x512x128) ![1, 0, 0, 0] S1x1x512x128.size inb_S2x1x512x128_S1x1x512x128_1_0_0_0)) b

set_option maxRecDepth 16384 in
theorem conv_run (c : Dev nD) (i : grid2.Coords) (M0 : Memref sig .tc .vmem S1x512x128 .f32) (h0 : M0.IsWhole) (M1 : Memref sig .tc .vmem S2x1x512x128 .f32) (h1 : M1.IsWhole)
    (M2 : Memref sig .tc .vmem S3x128x128 .f32) (h2 : M2.IsWhole) (M3 : Memref sig .tc .vmem S1x128 .f32) (h3 : M3.IsWhole) (M4 : Memref sig .tc .vmem S1x128x512 .f32) (h4 : M4.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ))) (f4 : Buf (Elt F) (M4.view.loc (c : Thread nD τ)))
    (E : Set ℕ) (Q : PUnit → sProp 𝕄) :
    iprop(pt c M0 f0 ∗ pt c M1 f1 ∗ pt c M2 f2 ∗ pt c M3 f3 ∗ pt c M4 f4
        ∗ (∀ W4 : Buf (Elt F) (M4.view.loc (c : Thread nD τ)),
            iprop(⌜M4.view.read (Elt F) W4 = convBlk (M0.view.read (Elt F) f0) (M1.view.read (Elt F) f1) (M2.view.read (Elt F) f2) (M3.view.read (Elt F) f3)⌝
              ∗ pt c M0 f0 ∗ pt c M1 f1 ∗ pt c M2 f2 ∗ pt c M3 f3 ∗ pt c M4 W4) -∗ Q ⟨⟩))
      ⊢ wp frame (wpE (defs₀ (F := F)) 𝒱₀ (c : Thread nD τ) none) E (cc2__conv_body i M0 h0 M1 h1 M2 h2 M3 h3 M4 h4) Q := by
  iintro ⟨H0, H1, H2, H3, H4, Hk⟩
  rw [cc2__conv_body_eq_skeleton]
  unfold cc2__conv_body_skel
  sl_exec!
  sl_step
  ispecialize Hk $$ %(M4.view.writes (Elt F) M4.view.junk (conv_run.sl.H4_1 c M0 M1 M2 M3 f0 f1 f2 f3))
  iapply Hk
  isplitr
  · ipureintro
    unfold conv_run.sl.H4_1
    exact (View.read_writes_full _ _ _ _ _).trans (congrArg₂ (fun T b => convBlk T (M1.view.read (Elt F) f1) (M2.view.read (Elt F) f2) b) (View.readAt_full _ _ _) (View.readAt_full _ _ _))
  isplitl [H0]; · iexact H0
  isplitl [H1]; · iexact H1
  isplitl [H2]; · iexact H2
  isplitl [H3]; · iexact H3
  iexact H4

end Cert.Proof.KNN

end
-- ==== Proof.Calls.lean ====
/-
  The two TensorCore calls as pipelines over the thread's unscoped buffers: what each staging buffer holds after the
  body at every grid point, and the two calls as segments entered from any contents of the unscoped buffers.
-/
module

public import proofs.«01_k».proof.Proof.Tile
public import proofs.«01_k».proof.Proof.Bodies
public import proofs.«01_k».proof.Proof.Gen.KernelIdeal.Points
public import Idealize.ShloMosaic.Lib.Pipeline.RegionsLoop
public import Idealize.ShloMosaic.Lib.Pipeline.FrameBody

@[expose] public section

noncomputable section

namespace Cert.Proof.KNN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [∀ e, Nonempty (Elt F e)]

local notation "𝕄" => MT nD τ sig (HIx 1) (Elt F) ℕ UU ℕ

abbrev adm : (p : Fin 2) → (pcfgs (F := F) p).Adm := fun p => (cfgs p).toPCfg_adm

/-! ## What the thread owes and has waited for -/

/-- The thread's debts before SparseCore call `n`, with every recorded wait at level at most `8 n`. -/
def owing (n : ℕ) (c : Dev nD) : sProp 𝕄 :=
  iprop(∃ W, ⌜(K (F := F)).WBelow (SparseCore.T c) W (8 * n)⌝ ∗ owes (c : Thread nD τ) ((K (F := F)).Otc c n) W)

/-- The waits at level at most `8 n`. -/
def below (n : ℕ) (c : Dev nD) : Set (SemLoc sig × HIx 1) := {p | (K (F := F)).lev ((c : Thread nD τ), p.1) p.2 ≤ 8 * n}

theorem otc_none (c : Dev nD) (n : ℕ) (g : GSem nD τ sig) : (K (F := F)).Otc (N := 1) c n g none = 0 := by
  by_contra h
  have := SparseCore.Cfg.lev_of_Otc_pos (K := K (F := F)) (N := 1) (Nat.pos_of_ne_zero h)
  simp only [SparseCore.Cfg.lev] at this
  omega

variable (V : (c : Dev nD) → (b : Ref sig .tc) → Buf (Elt F) ((c : Thread nD τ).loc b))

/-! ## The first call -/

/-- Batch `b`'s points and this step's points of it, as the windows stage them. -/
def xAll (c : Dev nD) (t : Fin cfg0.N) : Vec F S1x128x2048 .f32 := ((cfg0.win 0).blk t).view.read (Elt F) (V c main_arg0)
def xPart (c : Dev nD) (t : Fin cfg0.N) : Vec F S1x128x512 .f32 := ((cfg0.win 1).blk t).view.read (Elt F) (V c main_arg0)

def dat0 (c : Dev nD) : Dat τ (Elt F) (HIx 1) ℕ UU ℕ cfg0 c where
  A w := V c (Pipeline.arrRef spec0 w)
  after w t := match w with
    | ⟨0, _⟩ => xAll V c t
    | ⟨1, _⟩ => xPart V c t
    | ⟨2, _⟩ => k0_pay2 (k0_pay3 (xPart V c t))
    | ⟨3, _⟩ => picks (grid0.coords t) (xAll V c t) (xPart V c t)
  Φ _ := Pipeline.scopedRest (Ix := HIx 1) (Name := ℕ) (U := UU) (Lvl := ℕ) (Val := Elt F) spec0 c
  q w := Pipeline.shareOf spec0 w
  owed _ := (K (F := F)).Otc c 0
  recorded _ := below (F := F) 0 c

/-! ## The second call -/

def cTab (c : Dev nD) (t : Fin cfg2.N) : Vec F S1x512x128 .f32 := ((cfg2.win 0).blk t).view.read (Elt F) (V c main_v4)
def cGath (c : Dev nD) (t : Fin cfg2.N) : Vec F S2x1x512x128 .f32 := ((cfg2.win 1).blk t).view.read (Elt F) (V c main_v3)
def cW (c : Dev nD) (t : Fin cfg2.N) : Vec F S3x128x128 .f32 := ((cfg2.win 2).blk t).view.read (Elt F) (V c main_v5)
def cB (c : Dev nD) (t : Fin cfg2.N) : Vec F S1x128 .f32 := ((cfg2.win 3).blk t).view.read (Elt F) (V c main_v6)

def dat1 (c : Dev nD) : Dat τ (Elt F) (HIx 1) ℕ UU ℕ cfg2 c where
  A w := V c (Pipeline.arrRef spec2 w)
  after w t := match w with
    | ⟨0, _⟩ => cTab V c t
    | ⟨1, _⟩ => cGath V c t
    | ⟨2, _⟩ => cW V c t
    | ⟨3, _⟩ => cB V c t
    | ⟨4, _⟩ => convBlk (cTab V c t) (cGath V c t) (cW V c t) (cB V c t)
  Φ _ := Pipeline.scopedRest (Ix := HIx 1) (Name := ℕ) (U := UU) (Lvl := ℕ) (Val := Elt F) spec2 c
  q _ := fullShare
  owed _ := (K (F := F)).Otc c 1
  recorded _ := below (F := F) 1 c

/-- The two calls' proof data, from the same contents of the unscoped buffers. -/
def pdats : (p : Fin 2) → (c : Dev nD) → Dat τ (Elt F) (HIx 1) ℕ UU ℕ (Pipeline.pin (pcfgs (F := F)) adm p) c
  | ⟨0, _⟩ => fun c => dat0 V c
  | ⟨1, _⟩ => fun c => dat1 V c

/-! ## The bodies at every point -/

/-- A whole buffer read through its memref at `X` is the buffer held whole at some contents that read `X`. -/
theorem owns_full (c : Dev nD) {sp : Space} {S : Shape} {e : EltTy} {M : Memref sig .tc sp S e} (h : M.IsWhole) (X : S.Idx → Elt F e) :
    (owns (c : Thread nD τ) M fullShare X : sProp 𝕄) = iprop(∃ f : Buf (Elt F) (M.view.loc (c : Thread nD τ)), ⌜M.view.read (Elt F) f = X⌝ ∗ pt c M f) := by
  unfold owns; rw [h.set_eq_univ]

theorem before0_0 (c : Dev nD) (t : Fin cfg0.N) (d : (cfg0.win 0).block.Idx → Elt F (cfg0.win 0).elt) : (dat0 V c).before 0 t d = xAll V c t :=
  (dat0 V c).before_in_eq_fetched 0 rfl (fun _ => rfl) (fun _ _ _ => rfl) (fun _ => rfl) t d
theorem before0_1 (c : Dev nD) (t : Fin cfg0.N) (d : (cfg0.win 1).block.Idx → Elt F (cfg0.win 1).elt) : (dat0 V c).before 1 t d = xPart V c t :=
  (dat0 V c).before_in_eq_fetched 1 rfl (fun _ => rfl) (fun _ _ _ => rfl) (fun _ => rfl) t d
theorem before2_0 (c : Dev nD) (t : Fin cfg2.N) (d : (cfg2.win 0).block.Idx → Elt F (cfg2.win 0).elt) : (dat1 V c).before 0 t d = cTab V c t :=
  (dat1 V c).before_in_eq_fetched 0 rfl (fun _ => rfl) (fun _ _ _ => rfl) (fun _ => rfl) t d
theorem before2_1 (c : Dev nD) (t : Fin cfg2.N) (d : (cfg2.win 1).block.Idx → Elt F (cfg2.win 1).elt) : (dat1 V c).before 1 t d = cGath V c t :=
  (dat1 V c).before_in_eq_fetched 1 rfl (fun _ => rfl) (fun _ _ _ => rfl) (fun _ => rfl) t d
theorem before2_2 (c : Dev nD) (t : Fin cfg2.N) (d : (cfg2.win 2).block.Idx → Elt F (cfg2.win 2).elt) : (dat1 V c).before 2 t d = cW V c t :=
  (dat1 V c).before_in_eq_fetched 2 rfl (fun _ => rfl) (fun _ _ _ => rfl) (fun _ => rfl) t d
theorem before2_3 (c : Dev nD) (t : Fin cfg2.N) (d : (cfg2.win 3).block.Idx → Elt F (cfg2.win 3).elt) : (dat1 V c).before 3 t d = cB V c t :=
  (dat1 V c).before_in_eq_fetched 3 rfl (fun _ => rfl) (fun _ _ _ => rfl) (fun _ => rfl) t d

theorem body0 (c : Dev nD) : BodyObligation (dat0 V c) (defs₀ (F := F)) 𝒱₀ none Set.univ := fun t => by
  rw [bigSep_W0, bigSep_W0]
  rw [show (dat0 V c).owesAt none t.succ = (dat0 V c).owesAt none t.castSucc from rfl,
    show (dat0 V c).Φ t.succ = (dat0 V c).Φ t.castSucc from rfl]
  iintro ⟨HΦ, Howes, ⟨%d0, H0⟩, ⟨%d1, H1⟩, ⟨%d2, H2⟩, ⟨%d3, H3⟩⟩
  ihave H0 := (Entails.of_eq (owns_full (F := F) c (M := st0_0 t) (hstage0_0 ((cfg0.slots t 0).cast nbuf0_0)) _)) $$ H0
  ihave H1 := (Entails.of_eq (owns_full (F := F) c (M := st0_1 t) (hstage0_1 ((cfg0.slots t 1).cast nbuf0_1)) _)) $$ H1
  ihave H2 := (Entails.of_eq (owns_full (F := F) c (M := st0_2 t) (hstage0_2 ((cfg0.slots t 2).cast nbuf0_2)) _)) $$ H2
  ihave H3 := (Entails.of_eq (owns_full (F := F) c (M := st0_3 t) (hstage0_3 ((cfg0.slots t 3).cast nbuf0_3)) _)) $$ H3
  icases H0 with ⟨%f0, %hf0, H0⟩
  icases H1 with ⟨%f1, %hf1, H1⟩
  icases H2 with ⟨%f2, %hf2, H2⟩
  icases H3 with ⟨%f3, %hf3, H3⟩
  rw [before0_0] at hf0
  rw [before0_1] at hf1
  iapply (topk_run (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) f0 f1 f2 f3 Set.univ _)
  isplitl [H0]; · iexact H0
  isplitl [H1]; · iexact H1
  isplitl [H2]; · iexact H2
  isplitl [H3]; · iexact H3
  iintro %W2 %W3 ⟨%h2, %h3, H0, H1, H2, H3⟩
  isplitl [HΦ]; · iexact HΦ
  isplitl [Howes]; · iexact Howes
  isplitl [H0]
  · iapply (Entails.of_eq (owns_full (F := F) c (M := st0_0 t) (hstage0_0 ((cfg0.slots t 0).cast nbuf0_0)) _).symm)
    iexists _; isplitr; swap; (· iexact H0); ipureintro; dsimp only [dat0]; exact hf0
  isplitl [H1]
  · iapply (Entails.of_eq (owns_full (F := F) c (M := st0_1 t) (hstage0_1 ((cfg0.slots t 1).cast nbuf0_1)) _).symm)
    iexists _; isplitr; swap; (· iexact H1); ipureintro; dsimp only [dat0]; exact hf1
  isplitl [H2]
  · iapply (Entails.of_eq (owns_full (F := F) c (M := st0_2 t) (hstage0_2 ((cfg0.slots t 2).cast nbuf0_2)) _).symm)
    iexists _; isplitr; swap; (· iexact H2); ipureintro; dsimp only [dat0]; rw [← hf1]; exact h2
  iapply (Entails.of_eq (owns_full (F := F) c (M := st0_3 t) (hstage0_3 ((cfg0.slots t 3).cast nbuf0_3)) _).symm)
  iexists _; isplitr; swap; (· iexact H3); ipureintro; dsimp only [dat0]; rw [← hf0, ← hf1]; exact h3

theorem body1 (c : Dev nD) : BodyObligation (dat1 V c) (defs₀ (F := F)) 𝒱₀ none Set.univ := fun t => by
  rw [bigSep_W2, bigSep_W2]
  rw [show (dat1 V c).owesAt none t.succ = (dat1 V c).owesAt none t.castSucc from rfl,
    show (dat1 V c).Φ t.succ = (dat1 V c).Φ t.castSucc from rfl]
  iintro ⟨HΦ, Howes, ⟨%d0, H0⟩, ⟨%d1, H1⟩, ⟨%d2, H2⟩, ⟨%d3, H3⟩, ⟨%d4, H4⟩⟩
  ihave H0 := (Entails.of_eq (owns_full (F := F) c (M := st2_0 t) (hstage2_0 ((cfg2.slots t 0).cast nbuf2_0)) _)) $$ H0
  ihave H1 := (Entails.of_eq (owns_full (F := F) c (M := st2_1 t) (hstage2_1 ((cfg2.slots t 1).cast nbuf2_1)) _)) $$ H1
  ihave H2 := (Entails.of_eq (owns_full (F := F) c (M := st2_2 t) (hstage2_2 ((cfg2.slots t 2).cast nbuf2_2)) _)) $$ H2
  ihave H3 := (Entails.of_eq (owns_full (F := F) c (M := st2_3 t) (hstage2_3 ((cfg2.slots t 3).cast nbuf2_3)) _)) $$ H3
  ihave H4 := (Entails.of_eq (owns_full (F := F) c (M := st2_4 t) (hstage2_4 ((cfg2.slots t 4).cast nbuf2_4)) _)) $$ H4
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  rw [before2_0] at hf0
  rw [before2_1] at hf1
  rw [before2_2] at hf2
  rw [before2_3] at hf3
  iapply (conv_run (F := F) c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) (st2_4 t) (hstage2_4 ((cfg2.slots t 4).cast nbuf2_4))
    f0 f1 f2 f3 f4 Set.univ _)
  isplitl [H0]; · iexact H0
  isplitl [H1]; · iexact H1
  isplitl [H2]; · iexact H2
  isplitl [H3]; · iexact H3
  isplitl [H4]; · iexact H4
  iintro %W4 ⟨%h4, H0, H1, H2, H3, H4⟩
  isplitl [HΦ]; · iexact HΦ
  isplitl [Howes]; · iexact Howes
  isplitl [H0]
  · iapply (Entails.of_eq (owns_full (F := F) c (M := st2_0 t) (hstage2_0 ((cfg2.slots t 0).cast nbuf2_0)) _).symm)
    iexists _; isplitr; swap; (· iexact H0); ipureintro; dsimp only [dat1]; exact hf0
  isplitl [H1]
  · iapply (Entails.of_eq (owns_full (F := F) c (M := st2_1 t) (hstage2_1 ((cfg2.slots t 1).cast nbuf2_1)) _).symm)
    iexists _; isplitr; swap; (· iexact H1); ipureintro; dsimp only [dat1]; exact hf1
  isplitl [H2]
  · iapply (Entails.of_eq (owns_full (F := F) c (M := st2_2 t) (hstage2_2 ((cfg2.slots t 2).cast nbuf2_2)) _).symm)
    iexists _; isplitr; swap; (· iexact H2); ipureintro; dsimp only [dat1]; exact hf2
  isplitl [H3]
  · iapply (Entails.of_eq (owns_full (F := F) c (M := st2_3 t) (hstage2_3 ((cfg2.slots t 3).cast nbuf2_3)) _).symm)
    iexists _; isplitr; swap; (· iexact H3); ipureintro; dsimp only [dat1]; exact hf3
  iapply (Entails.of_eq (owns_full (F := F) c (M := st2_4 t) (hstage2_4 ((cfg2.slots t 4).cast nbuf2_4)) _).symm)
  iexists _; isplitr; swap; (· iexact H4); ipureintro; dsimp only [dat1]; rw [← hf0, ← hf1, ← hf2, ← hf3]; exact h4

/-! ## The calls as segments -/

/-- What the calls leave in their result arrays. -/
def tabOut (c : Dev nD) : Buf (Elt F) ((c : Thread nD τ).loc main_v0_0) := (dat0 V c).arrAt 2 cfg0.N
def idxOut (c : Dev nD) : Buf (Elt F) ((c : Thread nD τ).loc main_v0_1) := (dat0 V c).arrAt 3 cfg0.N
def convOut (c : Dev nD) : Buf (Elt F) ((c : Thread nD τ).loc main_v7) := (dat1 V c).arrAt 4 cfg2.N

variable (Vp : (c : Dev nD) → (b : Ref sig .tc) → Buf (Elt F) ((c : Thread nD τ).loc b))

set_option backward.isDefEq.respectTransparency.types false in
def reg0 (h0 : ∀ c, Vp c main_v0_0 = tabOut V c) (h1 : ∀ c, Vp c main_v0_1 = idxOut V c)
    (hne : ∀ c (b : Ref sig .tc), b ≠ main_v0_0 → b ≠ main_v0_1 → Vp c b = V c b) :
    Pipeline.RegionSeg (pcfgs (F := F)) adm (pdats V) none defs₀ 𝒱₀ (K (F := F)).L (K (F := F)).lev 0 where
  win := (launch₀0).win
  block_pos := (launch₀0).block_pos
  stage_whole := (launch₀0).stage_whole
  K := PEmpty
  osem k := k.elim
  ho := Pipeline.OwnSemFacts.none _
  hbody c := (body0 V c).loose
  hwaits c := Pipeline.cellsWaits_intro (Pipeline.pin (pcfgs (F := F)) adm) (pdats V) none 0 c fun w s t =>
    (K (F := F)).mayWait_none _ (otc_none c 0)
  pre c := iprop(unscopedBufs c (V c) ∗ owing (F := F) 0 c)
  post c := iprop(unscopedBufs c (Vp c) ∗ owing (F := F) 0 c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs_shared (p := 0) (pcfgs (F := F)) adm (pdats V) (launch₀0).win sharedIn0 (launch₀0).arr_whole c
      (fun _ _ => rfl) (V c) fun _ => rfl
    unfold owing
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays_shared (p := 0) (pcfgs (F := F)) adm (Ix := HIx 1) (Name := ℕ) (U := UU) (Lvl := ℕ) (launch₀0).win sharedIn0 (launch₀0).arr_whole c
      (pdats V) (fun _ _ => rfl) (V c) (Vp c) ((pdats V 0 c).arrAt · cfg0.N)
      (fun w => by
        fin_cases w
        · exact ((pdats V 0 c).arrAt_in 0 rfl _).trans (hne c main_arg0 (by decide) (by decide)).symm
        · exact ((pdats V 0 c).arrAt_in 1 rfl _).trans (hne c main_arg0 (by decide) (by decide)).symm
        · exact (h0 c).symm
        · exact (h1 c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin owing
    icases HO with ⟨%W, %hW, HO⟩; iexists W; isplitr
    · ipureintro
      intro p hp
      rcases hW hp with h | ⟨w, s, rfl⟩
      · exact h
      · exact Nat.zero_le _
    iexact HO

set_option backward.isDefEq.respectTransparency.types false in
def reg1 (h4 : ∀ c, Vp c main_v7 = convOut V c)
    (hne : ∀ c (b : Ref sig .tc), b ≠ main_v7 → Vp c b = V c b) :
    Pipeline.RegionSeg (pcfgs (F := F)) adm (pdats V) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body1 V c).loose
  hwaits c := Pipeline.cellsWaits_intro (Pipeline.pin (pcfgs (F := F)) adm) (pdats V) none 1 c fun w s t =>
    (K (F := F)).mayWait_none _ (otc_none c 1)
  pre c := iprop(unscopedBufs c (V c) ∗ owing (F := F) 1 c)
  post c := iprop(unscopedBufs c (Vp c) ∗ owing (F := F) 1 c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V) (launch2).win (launch2).arr_whole c
      ((pdats V 1 c).share_full fun _ => rfl) (V c) fun _ => rfl
    unfold owing
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v4 (by decide)).symm
        · exact ((pdats V 1 c).arrAt_in 1 rfl _).trans (hne c main_v3 (by decide)).symm
        · exact ((pdats V 1 c).arrAt_in 2 rfl _).trans (hne c main_v5 (by decide)).symm
        · exact ((pdats V 1 c).arrAt_in 3 rfl _).trans (hne c main_v6 (by decide)).symm
        · exact (h4 c).symm)
      (fun b hb => hne c b (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin owing
    icases HO with ⟨%W, %hW, HO⟩; iexists W; isplitr
    · ipureintro
      intro p hp
      rcases hW hp with h | ⟨w, s, rfl⟩
      · exact h
      · exact Nat.zero_le _
    iexact HO

end Cert.Proof.KNN

end
-- ==== Proof.Launch.lean ====
/-
  The whole program: @main's two TensorCore calls, the gather between them and the host's reshapes, run in order over
  the thread's unscoped buffers, and what memory holds at the end.
-/
module

public import proofs.«01_k».proof.Proof.Calls

@[expose] public section

noncomputable section

namespace Cert.Proof.KNN

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.StableHlo (held)

variable {F : FTy → Type} [FloatOps F] [∀ e, Nonempty (Elt F e)]

local notation "𝕄" => MT nD τ sig (HIx 1) (Elt F) ℕ UU ℕ

/-! ## The gather call's tasks -/

section Tiles

variable (TB : (d : Dev nD) → Buf (Elt F) (tLoc d)) (IX : (d : Dev nD) → Buf (Elt F) (iLoc d)) (OB : (d : Dev nD) → Buf (Elt F) (oLoc d))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          (Memref.whole main_v0_0_scv) (Memref.isWhole_whole _) (Memref.whole main_v1_scv) (Memref.isWhole_whole _) (Memref.whole main_v2_scv) (Memref.isWhole_whole _)
          (Memref.whole cc1_scratch0) (Memref.isWhole_whole _) (Memref.whole cc1_scratch1) (Memref.isWhole_whole _)
          cc1_scratch2 cc1_scratch3 cc1_scratch4 cc1_scratch5 cc1_scratch6 cc1_scoped0) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : IxOK IX) : (K (F := F)).TileObl (D (F := F)) 𝒱 (P TB IX OB) v₀ 0 := by
  intro d c i O W hO _ _
  simp only [show (P TB IX OB).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body TB IX OB d (coordsV ⟨_, hci.1⟩ ⟨_, hci.2⟩) hF hpre O W hO).trans (wp_mono frame _ _ fun _ => obl_post)

end Tiles

/-! ## The contents of the unscoped buffers, step by step -/

section Main

variable (m : (ℓ : Loc nD τ sig) → Buf (Elt F) ℓ) (ρ : Dev nD → PrngReg)

abbrev Vals : Type := Dev nD → Valuation τ sig (Elt F)
/-- The contents at the TensorCore's references. -/
abbrev at' (W : Vals (F := F)) : (c : Dev nD) → (b : Ref sig .tc) → Buf (Elt F) ((c : Thread nD τ).loc b) := fun c b => W c b

abbrev op1 : HloOp τ sig (Elt F) := StableHlo.reshape main_v0_1 main_v1 (rfl : (.i32 : EltTy) = .i32) shapeCasts_S2x16x1x512_S16384
abbrev op3 : HloOp τ sig (Elt F) := StableHlo.reshape main_v2 main_v3 (rfl : (.f32 : EltTy) = .f32) shapeCasts_S16384x128_S2x4x2048x128
abbrev op4 : HloOp τ sig (Elt F) := StableHlo.reshape main_v0_0 main_v4 (rfl : (.f32 : EltTy) = .f32) shapeCasts_S8192x128_S4x2048x128
abbrev op5 : HloOp τ sig (Elt F) := StableHlo.unary main_arg1 main_v5 ((transpose S3x128x128 [2, 0, 1] · transposes_S128x128x3_S3x128x128_2_0_1) : (⟨S128x128x3, .f32⟩ : BufTy).Contents (Elt F) → (⟨S3x128x128, .f32⟩ : BufTy).Contents (Elt F))
abbrev op6 : HloOp τ sig (Elt F) := StableHlo.reshape main_arg2 main_v6 (rfl : (.f32 : EltTy) = .f32) shapeCasts_S128_S1x128

/-- At launch; after the first call; after the list's reshape; after the gather; after the host's reshapes; at the end. -/
def W0 : Vals (F := F) := fun c b => m (c, b)
def W1 : Vals (F := F) := fun c =>
  Function.update (Function.update (W0 m c) (Proc.devRef .tc main_v0_0) (tabOut (at' (W0 m)) c)) (Proc.devRef .tc main_v0_1) (idxOut (at' (W0 m)) c)
def W2 : Vals (F := F) := fun c => op1.result (W1 m c)
def TB (d : Dev nD) : Buf (Elt F) (tLoc d) := W2 m d (Proc.devRef .tc main_v0_0)
def IX (d : Dev nD) : Buf (Elt F) (iLoc d) := W2 m d (Proc.devRef .tc main_v1)
def OB (d : Dev nD) : Buf (Elt F) (oLoc d) := W2 m d (Proc.devRef .tc main_v2)
def W3 : Vals (F := F) := fun c => Function.update (W2 m c) (Proc.devRef .tc main_v2) (GO (TB m) (IX m) c)
def W7 : Vals (F := F) := fun c => op6.result (op5.result (op4.result (op3.result (W3 m c))))
def W8 : Vals (F := F) := fun c => Function.update (W7 m c) (Proc.devRef .tc main_v7) (convOut (at' (W7 m)) c)

def ucRefs : Finset (DevRef τ sig) := (StableHlo.tcRefs τ sig).filter fun b => ¬ b.isScoped

omit [FloatOps F] [∀ e, Nonempty (Elt F e)] in
/-- The unscoped buffers at a valuation are the unscoped references held at it. -/
theorem unscopedBufs_held (c : Dev nD) (W : Vals (F := F)) :
    (unscopedBufs c (at' W c) : sProp 𝕄) = held (c : Thread nD τ) ucRefs (W c) := by
  unfold unscopedBufs StableHlo.held ucRefs StableHlo.tcRefs
  rw [Finset.filter_map, bigSep_map]
  rfl

def scRefs : Finset (DevRef τ sig) := {Proc.devRef .tc main_v0_0, Proc.devRef .tc main_v1, Proc.devRef .tc main_v2}
theorem scRefs_sub : scRefs ⊆ ucRefs := by decide
theorem bufs1 : (op1 (F := F)).bufs ⊆ ucRefs := by show ({_, _} : Finset _) ⊆ _; decide
theorem bufs3 : (op3 (F := F)).bufs ⊆ ucRefs := by show ({_, _} : Finset _) ⊆ _; decide
theorem bufs4 : (op4 (F := F)).bufs ⊆ ucRefs := by show ({_, _} : Finset _) ⊆ _; decide
theorem bufs5 : (op5 (F := F)).bufs ⊆ ucRefs := by show ({_, _} : Finset _) ⊆ _; decide
theorem bufs6 : (op6 (F := F)).bufs ⊆ ucRefs := by show ({_, _} : Finset _) ⊆ _; decide

omit [FloatOps F] [∀ e, Nonempty (Elt F e)] in
theorem held_sc (c : Dev nD) (W : Valuation τ sig (Elt F)) :
    (held (c : Thread nD τ) scRefs W : sProp 𝕄)
      = iprop((tLoc c ↦{fullShare} W (Proc.devRef .tc main_v0_0)) ∗ (iLoc c ↦{fullShare} W (Proc.devRef .tc main_v1)) ∗ (oLoc c ↦{fullShare} W (Proc.devRef .tc main_v2))) := by
  unfold StableHlo.held scRefs
  rw [SparseCore.bigSep_insert' (by decide), SparseCore.bigSep_insert' (by decide), bigSep_singleton]

/-! ## @main -/

/-- What the run leaves the program with: every unscoped buffer at its last contents. -/
abbrev FIN (d : Dev nD) : sProp 𝕄 := held (d : Thread nD τ) ucRefs (W8 m d)

/-- The ghost state of the two pipelines on device `d`. -/
def G (d : Dev nD) : sProp 𝕄 :=
  iprop((Pipeline.cellsGhost (Pipeline.pin (pcfgs (F := F)) adm) EP 0 d ∗ Pipeline.toksInit (Pipeline.pin (pcfgs (F := F)) adm) EP 0 d)
    ∗ Pipeline.cellsGhost (Pipeline.pin (pcfgs (F := F)) adm) EP 1 d ∗ Pipeline.toksInit (Pipeline.pin (pcfgs (F := F)) adm) EP 1 d)

theorem w1_0 (c : Dev nD) : at' (W1 m) c main_v0_0 = tabOut (at' (W0 m)) c :=
  (Function.update_of_ne (by decide) _ _).trans (Function.update_self _ _ _)
theorem w1_1 (c : Dev nD) : at' (W1 m) c main_v0_1 = idxOut (at' (W0 m)) c := Function.update_self _ _ _
theorem devRef_ne {a b : Ref sig .tc} (h : a ≠ b) : (Proc.devRef .tc a : DevRef τ sig) ≠ Proc.devRef .tc b := fun e => h (Proc.devRef_injective _ e)
theorem w1_ne (c : Dev nD) (b : Ref sig .tc) (h0 : b ≠ main_v0_0) (h1 : b ≠ main_v0_1) : at' (W1 m) c b = at' (W0 m) c b :=
  (Function.update_of_ne (devRef_ne h1) _ _).trans (Function.update_of_ne (devRef_ne h0) _ _)
theorem w8_7 (c : Dev nD) : at' (W8 m) c main_v7 = convOut (at' (W7 m)) c := Function.update_self _ _ _
theorem w8_ne (c : Dev nD) (b : Ref sig .tc) (h : b ≠ main_v7) : at' (W8 m) c b = at' (W7 m) c b := Function.update_of_ne (devRef_ne h) _ _

set_option backward.isDefEq.respectTransparency.types false in
/-- A TensorCore call in @main, from what its region asks. -/
theorem callR (V : (c : Dev nD) → (b : Ref sig .tc) → Buf (Elt F) ((c : Thread nD τ).loc b)) (p : Fin 2)
    (R : Pipeline.RegionSeg (pcfgs (F := F)) adm (pdats V) none defs₀ 𝒱₀ (K (F := F)).L (K (F := F)).lev p) (d : Dev nD) (Q : PUnit → sProp 𝕄) :
    iprop((iprop(boundary (d : Thread nD τ) ∗ R.post d) -∗ Q ⟨⟩)
        ∗ boundary (d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  have h1 := (K (F := F)).wp_liftProg (D (F := F)) 𝒱 (SparseCore.T d) Set.univ none
    (.op (.customCall (Pipeline.entry p) ()) .ret : Prog (TpuEff nD τ sig (Elt F) (ΛP (F := F)) .tc) PUnit) Q
  refine BI.Entails.trans ?_ h1
  have h2 := Pipeline.RegionSeg.wp (pcfgs (F := F)) adm (pdats V) none cellOf_inj EP defs₀ 𝒱₀ (K (F := F)).L (K (F := F)).lev
    R d none (fun _ h => by cases h) (fun x => .ret x) Q
  have h3 : Q ⟨⟩ ⊢ wp frame (wpE (D (F := F)) 𝒱 (d : Thread nD τ) none) Set.univ (.ret ⟨⟩) Q := by rw [wp_ret]; exact fupd_intro
  exact (sep_mono (wand_mono .rfl h3) .rfl).trans h2

/-- The first call, in @main. -/
theorem call0 (d : Dev nD) (Q : PUnit → sProp 𝕄) :
    iprop((iprop(boundary (d : Thread nD τ) ∗ held (d : Thread nD τ) ucRefs (W1 m d) ∗ owing (F := F) 0 d) -∗ Q ⟨⟩)
        ∗ boundary (d : Thread nD τ) ∗ (held (d : Thread nD τ) ucRefs (W0 m d) ∗ owing (F := F) 0 d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  have h := callR (at' (W0 m)) 0 (reg0 (at' (W0 m)) (at' (W1 m)) (w1_0 m) (w1_1 m) (w1_ne m)) d Q
  rw [show (reg0 (at' (W0 m)) (at' (W1 m)) (w1_0 m) (w1_1 m) (w1_ne m)).pre d = iprop(unscopedBufs d (at' (W0 m) d) ∗ owing (F := F) 0 d) from rfl,
    show (reg0 (at' (W0 m)) (at' (W1 m)) (w1_0 m) (w1_1 m) (w1_ne m)).post d = iprop(unscopedBufs d (at' (W1 m) d) ∗ owing (F := F) 0 d) from rfl,
    unscopedBufs_held, unscopedBufs_held] at h
  exact h

/-- The second call, in @main. -/
theorem call1 (d : Dev nD) (Q : PUnit → sProp 𝕄) :
    iprop((iprop(boundary (d : Thread nD τ) ∗ held (d : Thread nD τ) ucRefs (W8 m d) ∗ owing (F := F) 1 d) -∗ Q ⟨⟩)
        ∗ boundary (d : Thread nD τ) ∗ (held (d : Thread nD τ) ucRefs (W7 m d) ∗ owing (F := F) 1 d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (Prog.lift (.customCall (SparseCore.inner (Pipeline.entry 1)) ())) Q := by
  have h := callR (at' (W7 m)) 1 (reg1 (at' (W7 m)) (at' (W8 m)) (w8_7 m) (w8_ne m)) d Q
  rw [show (reg1 (at' (W7 m)) (at' (W8 m)) (w8_7 m) (w8_ne m)).pre d = iprop(unscopedBufs d (at' (W7 m) d) ∗ owing (F := F) 1 d) from rfl,
    show (reg1 (at' (W7 m)) (at' (W8 m)) (w8_7 m) (w8_ne m)).post d = iprop(unscopedBufs d (at' (W8 m) d) ∗ owing (F := F) 1 d) from rfl,
    unscopedBufs_held, unscopedBufs_held] at h
  exact h

/-- The gather's result aside, the gather call leaves the unscoped buffers as they were. -/
theorem rest3 (d : Dev nD) : (held (d : Thread nD τ) (ucRefs \ scRefs) (W3 m d) : sProp 𝕄) = held (d : Thread nD τ) (ucRefs \ scRefs) (W2 m d) :=
  StableHlo.held_congr _ fun b hb => Function.update_of_ne (fun e => (Finset.mem_sdiff.mp hb).2 (by rw [e]; decide)) _ _

theorem hmain (κ : GSem nD τ sig → ℕ) (d : Dev nD) :
    iprop((K (F := F)).ctx EH (P (TB m) (IX m) (OB m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d).loc b)) : sProp 𝕄) = held (d : Thread nD τ) ucRefs (W0 m d) from unscopedBufs_held d (W0 m)]
  simp only [main, wp_bind, wp_pure]
  iintro ⟨#Hctx, Hst, ⟨Hb, Hh, Hts, -⟩, ⟨Hg0, Ht0⟩, Hg1, Ht1⟩
  ihave #Hlev := (SparseCore.Cfg.ctx_levAts κ) $$ Hctx
  unfold SparseCore.Cfg.tcSt
  icases Hst with ⟨HO, Hst⟩
  ihave HO := (show iprop(∃ W, ⌜(K (F := F)).WBelow (SparseCore.T d) W (8 * SparseCore.Cfg.Blocks.fst 1 1 0)⌝ ∗ owes (SparseCore.T d) ((K (F := F)).Otc d 0) W)
      ⊢ (owing (F := F) 0 d : sProp 𝕄) from .rfl) $$ HO
  iapply (call0 m d)
  isplitr [Hb Hh HO Hg0 Ht0]; swap
  · isplitl [Hb]; · iexact Hb
    isplitl [Hh HO]
    · isplitl [Hh]; · iexact Hh
      iexact HO
    isplitr; · iexact Hlev
    isplitl [Hg0] <;> iassumption
  iintro ⟨Hb, Hh, HO⟩
  iapply (StableHlo.wp_hlo_within 𝒱 (SparseCore.T d) none Set.univ (op := op1) bufs1) $$ [Hb Hh]
  · isplitl [Hb] <;> iassumption
  iintro ⟨Hb, Hh⟩
  rw [wp_ret]; imodintro
  ihave Hh := (show (held (SparseCore.T d) ucRefs (op1.result (W1 m d)) : sProp 𝕄) ⊢ _ from
    Entails.of_eq (StableHlo.held_sub_split (d : Thread nD τ) scRefs_sub (W2 m d))) $$ Hh
  icases Hh with ⟨Hsc, Hrest⟩
  ihave Hsc := (Entails.of_eq (held_sc d (W2 m d))) $$ Hsc
  iapply ((K (F := F)).wp_run (D (F := F)) 𝒱 (EH := EH) (P := P (TB m) (IX m) (OB m)) κ d 0) $$ [Hst HO Hsc Hb Hts Hrest Hg1 Ht1]
  isplitr; · iexact Hctx
  isplitl [Hst HO]
  · unfold SparseCore.Cfg.tcSt
    isplitl [HO]; · iapply (show (owing (F := F) 0 d : sProp 𝕄) ⊢ iprop(∃ W, ⌜(K (F := F)).WBelow (SparseCore.T d) W (8 * SparseCore.Cfg.Blocks.fst 1 1 (0 : Fin 1).val)⌝ ∗ owes (SparseCore.T d) ((K (F := F)).Otc d (0 : Fin 1).val) W) from .rfl) $$ HO
    iexact Hst
  isplitl [Hsc]
  · rw [st0_eq]; iexact Hsc
  iintro ⟨Hst, Hdn⟩
  ihave Hsc := (Entails.of_eq (dn0_eq (TB m) (IX m) (OB m) d)) $$ Hdn
  ihave Hh := (show iprop(((tLoc d ↦{fullShare} TB m d) ∗ (iLoc d ↦{fullShare} IX m d) ∗ (oLoc d ↦{fullShare} GO (TB m) (IX m) d)) ∗ held (d : Thread nD τ) (ucRefs \ scRefs) (W2 m d))
      ⊢ (held (d : Thread nD τ) ucRefs (W3 m d) : sProp 𝕄) from Entails.of_eq (by
        rw [StableHlo.held_sub_split (d : Thread nD τ) scRefs_sub (W3 m d), held_sc, rest3]
        rw [show W3 m d (Proc.devRef .tc main_v0_0) = TB m d from Function.update_of_ne (by decide) _ _,
          show W3 m d (Proc.devRef .tc main_v1) = IX m d from Function.update_of_ne (by decide) _ _,
          show W3 m d (Proc.devRef .tc main_v2) = GO (TB m) (IX m) d from Function.update_self _ _ _])) $$ [Hsc Hrest]
  · isplitl [Hsc] <;> iassumption
  iapply (StableHlo.wp_hlo_within 𝒱 (SparseCore.T d) none Set.univ (op := op3) bufs3) $$ [Hb Hh]
  · isplitl [Hb] <;> iassumption
  iintro ⟨Hb, Hh⟩
  rw [wp_ret]; imodintro
  iapply (StableHlo.wp_hlo_within 𝒱 (SparseCore.T d) none Set.univ (op := op4) bufs4) $$ [Hb Hh]
  · isplitl [Hb] <;> iassumption
  iintro ⟨Hb, Hh⟩
  rw [wp_ret]; imodintro
  iapply (StableHlo.wp_hlo_within 𝒱 (SparseCore.T d) none Set.univ (op := op5) bufs5) $$ [Hb Hh]
  · isplitl [Hb] <;> iassumption
  iintro ⟨Hb, Hh⟩
  rw [wp_ret]; imodintro
  iapply (StableHlo.wp_hlo_within 𝒱 (SparseCore.T d) none Set.univ (op := op6) bufs6) $$ [Hb Hh]
  · isplitl [Hb] <;> iassumption
  iintro ⟨Hb, Hh⟩
  rw [wp_ret]; imodintro
  unfold SparseCore.Cfg.tcSt
  icases Hst with ⟨HO, Hst⟩
  ihave HO := (show iprop(∃ W, ⌜(K (F := F)).WBelow (SparseCore.T d) W (8 * SparseCore.Cfg.Blocks.fst 1 1 ((0 : Fin 1).val + 1))⌝ ∗ owes (SparseCore.T d) ((K (F := F)).Otc d ((0 : Fin 1).val + 1)) W)
      ⊢ (owing (F := F) 1 d : sProp 𝕄) from .rfl) $$ HO
  iapply (call1 m d)
  isplitr [Hb Hh HO Hg1 Ht1]; swap
  · isplitl [Hb]; · iexact Hb
    isplitl [Hh HO]
    · isplitl [Hh]; · iexact Hh
      iexact HO
    isplitr; · iexact Hlev
    isplitl [Hg1] <;> iassumption
  iintro ⟨Hb, Hh, HO⟩
  imodintro
  isplitl [HO Hst]
  · isplitl [HO]; · iapply (show (owing (F := F) 1 d : sProp 𝕄) ⊢ iprop(∃ W, ⌜(K (F := F)).WBelow (SparseCore.T d) W (8 * SparseCore.Cfg.Blocks.fst 1 1 1)⌝ ∗ owes (SparseCore.T d) ((K (F := F)).Otc d 1) W) from .rfl) $$ HO
    iexact Hst
  isplitl [Hh]; · iexact Hh
  isplitl [Hb] <;> iassumption

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_dev (Φ : Dev nD → sProp 𝕄) (d : Dev nD) : bigSep Finset.univ Φ = Φ d := by
  have : Subsingleton (Dev nD) := ⟨fun a b => by have := a.isLt; have := b.isLt; unfold nD at *; exact Fin.ext (by omega)⟩
  exact bigSep_univ_of_subsingleton d

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (TB m) (IX m) (OB m)).x q thr) := by
  unfold u₀
  iintro Hu
  ihave H := (ownU_pair _ _) $$ Hu
  icases H with ⟨HH, HR⟩
  ihave HR := (own_pair_emb embR _ _) $$ HR
  icases HR with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply (show iprop((bigSep Finset.univ fun c : Dev nD => bigSep Finset.univ fun p : Fin 2 => Pipeline.cellsGhost (Pipeline.pin (pcfgs (F := F)) adm) EP p c)
          ∗ (bigSep Finset.univ fun c : Dev nD => bigSep Finset.univ fun p : Fin 2 => Pipeline.toksInit (Pipeline.pin (pcfgs (F := F)) adm) EP p c))
        ⊢ (bigSep Finset.univ fun d : Dev nD => G (F := F) d : sProp 𝕄) by
      rw [bigSep_dev _ (0 : Fin 1), bigSep_dev _ (0 : Fin 1), bigSep_dev _ (0 : Fin 1), bigSep_univ_two, bigSep_univ_two]
      unfold G
      iintro ⟨⟨Hg0, Hg1⟩, Ht0, Ht1⟩
      isplitl [Hg0 Ht0]; · isplitl [Hg0] <;> iassumption
      isplitl [Hg1] <;> iassumption)
    isplitl [Hg] <;> iassumption
  rw [show (bigSep Finset.univ fun thr : Thread nD τ => bigSep Finset.univ fun q : Fin 1 => (P (F := F) (TB m) (IX m) (OB m)).x q thr) = bigSep Finset.univ fun _ => iprop(emp) from
    bigSep_congr fun _ _ => bigSep_univ_of_subsingleton (0 : Fin 1), show (bigSep (Finset.univ : Finset (Thread nD τ)) fun _ => iprop(emp)) = (iprop(emp) : sProp 𝕄) from bigSep_emp_const _]
  iempintro

/-! ## The run -/

def fq (d : Dev nD) (s' : Phys nD τ sig (Elt F)) : Prop := ∀ b ∈ ucRefs, s'.mem.mem (d, b) = W8 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all ucRefs (fun b => ((d, b) : Loc nD τ sig)) (fun b => W8 m d b) s') $$ [Hh HSI]
  · isplitl [Hh] <;> iassumption
  icases Hr with ⟨%h, -⟩
  ipureintro; exact h

def QC : PUnit × MemSt nD τ sig (Elt F) → Prop := fun r => (∀ d : Dev nD, ∀ b ∈ ucRefs, r.2.mem (d, b) = W8 m d b) ∧ r.2.sem = fun _ => 0

/-- The whole program runs to its end without fault, every counter at zero and every unscoped buffer at its last
    contents, if every entry of the list of rows names a row. -/
theorem run_main (hpre : IxOK (IX m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (TB m) (IX m) (OB m)) (A := ∅) facts v₀
    (fun q hq => match q with | 0 => nomatch hq)
    (fun q _ => match q with | 0 => tileObl (TB m) (IX m) (OB m) facts hpre)
    (fun q _ => match q with | 0 => SparseCore.Cfg.VecSplit.of_plain (vecSplit (TB m) (IX m) (OB m)))
    m ρ main (fun d => G (F := F) d) (FIN m) (u₀ (F := F)) (sep_elim_left.trans (hu₀ m)) (hmain m ρ) (fq m) (hfin m) (QC m) (fun _ h hz => ⟨h, hz⟩)

end Main

end Cert.Proof.KNN

end
-- ==== Proof.Arrays.lean ====
/-
  The arrays the two TensorCore calls leave, read at an entry: which grid point wrote it, and what that point computed.
-/
module

public import proofs.«01_k».proof.Proof.Calls
public import Idealize.ShloMosaic.Lib.Pointwise

@[expose] public section

noncomputable section

namespace Cert.Proof.KNN

open Cert.KernelIdeal Cert.KernelIdeal.Gen
open Idealize.ShloMosaic Idealize.ShloMosaic.TcCoe Idealize.ShloMosaic.Pointwise
open Idealize.SL Idealize.SL.Sem

variable {F : FTy → Type} [FloatOps F] [∀ e, Nonempty (Elt F e)]
variable (V : (c : Dev nD) → (b : Ref sig .tc) → Buf (Elt F) ((c : Thread nD τ).loc b))

/-- The grid point of batch `b` and block `j`. -/
def pt0 (b j : Fin 4) : Fin cfg0.N := ⟨4 * b.val + j.val, by have h : cfg0.N = 16 := N_0; omega⟩

theorem coords0 : ∀ b j : Fin 4, ((grid0.coords (pt0 b j)) 0).val = b.val ∧ ((grid0.coords (pt0 b j)) 1).val = j.val := by decide
theorem index0_0 : ∀ b j : Fin 4, (cfg0.win 0).index (pt0 b j) = (![b.val, 0, 0] : Fin 3 → Nat) := by decide
theorem index0_1 : ∀ b j : Fin 4, (cfg0.win 1).index (pt0 b j) = (![b.val, 0, j.val] : Fin 3 → Nat) := by decide
theorem index0_2 : ∀ t : Fin cfg0.N, (cfg0.win 2).index t = (![t.val, 0] : Fin 2 → Nat) := by decide
theorem index0_3 : ∀ t : Fin cfg0.N, (cfg0.win 3).index t = (![0, t.val, 0, 0] : Fin 4 → Nat) := by decide

theorem emb0_2 (t : Fin cfg0.N) (r : Fin 512) (ch : Fin 128) :
    (((cfg0.win 2).blk t).view.emb (ix2 r ch : S512x128.Idx) : S8192x128.Idx) = ix2 (⟨t.val * 512 + r.val, by have := t.isLt; have h : cfg0.N = 16 := N_0; omega⟩ : Fin 8192) ch := by
  funext a
  refine Fin.ext (((cfg0.win 2).rect_emb_val t _ a).trans ?_)
  rw [index0_2]
  match a with
  | ⟨0, _⟩ => exact rfl
  | ⟨1, _⟩ => exact Nat.zero_add _

theorem emb0_3 (t : Fin cfg0.N) (k : Fin 2) (r : Fin 512) :
    (((cfg0.win 3).blk t).view.emb (ix4 k 0 0 r : S2x1x1x512.Idx) : S2x16x1x512.Idx) = ix4 k (⟨t.val, by have := t.isLt; have h : cfg0.N = 16 := N_0; omega⟩ : Fin 16) 0 r := by
  funext a
  refine Fin.ext (((cfg0.win 3).rect_emb_val t _ a).trans ?_)
  rw [index0_3]
  match a with
  | ⟨0, _⟩ => exact Nat.zero_add _
  | ⟨1, _⟩ => exact Nat.mul_one _
  | ⟨2, _⟩ => exact Nat.zero_add _
  | ⟨3, _⟩ => exact Nat.zero_add _

theorem disj0_2 : ∀ t t' : Fin cfg0.N, (cfg0.win 2).flush t = true → (cfg0.win 2).flush t' = true → t ≠ t' →
    Disjoint ((cfg0.win 2).blk t).view.set ((cfg0.win 2).blk t').view.set := by
  intro t t' _ _ hne
  refine Finset.disjoint_left.2 fun i hi hi' => hne ?_
  obtain ⟨y, e⟩ := View.exists_emb_of_mem_set _ hi
  obtain ⟨y', e'⟩ := View.exists_emb_of_mem_set _ hi'
  have e0 : (((cfg0.win 2).rect t).emb y (0 : Fin 2)).val = (((cfg0.win 2).rect t').emb y' (0 : Fin 2)).val :=
    congrArg Fin.val (congrFun (e.trans e'.symm : (((cfg0.win 2).blk t).view.emb y : S8192x128.Idx) = ((cfg0.win 2).blk t').view.emb y') (0 : Fin 2))
  rw [(cfg0.win 2).rect_emb_val, (cfg0.win 2).rect_emb_val, index0_2, index0_2] at e0
  have e1 : t.val * 512 + (y (0 : Fin 2)).val = t'.val * 512 + (y' (0 : Fin 2)).val := e0
  have l : (y (0 : Fin 2)).val < 512 := (y (0 : Fin 2)).isLt
  have l' : (y' (0 : Fin 2)).val < 512 := (y' (0 : Fin 2)).isLt
  exact Fin.ext (by omega)

theorem disj0_3 : ∀ t t' : Fin cfg0.N, (cfg0.win 3).flush t = true → (cfg0.win 3).flush t' = true → t ≠ t' →
    Disjoint ((cfg0.win 3).blk t).view.set ((cfg0.win 3).blk t').view.set := by
  intro t t' _ _ hne
  refine Finset.disjoint_left.2 fun i hi hi' => hne ?_
  obtain ⟨y, e⟩ := View.exists_emb_of_mem_set _ hi
  obtain ⟨y', e'⟩ := View.exists_emb_of_mem_set _ hi'
  have e0 : (((cfg0.win 3).rect t).emb y (1 : Fin 4)).val = (((cfg0.win 3).rect t').emb y' (1 : Fin 4)).val :=
    congrArg Fin.val (congrFun (e.trans e'.symm : (((cfg0.win 3).blk t).view.emb y : S2x16x1x512.Idx) = ((cfg0.win 3).blk t').view.emb y') (1 : Fin 4))
  rw [(cfg0.win 3).rect_emb_val, (cfg0.win 3).rect_emb_val, index0_3, index0_3] at e0
  have e1 : t.val * 1 + (y (1 : Fin 4)).val = t'.val * 1 + (y' (1 : Fin 4)).val := e0
  have l : (y (1 : Fin 4)).val < 1 := (y (1 : Fin 4)).isLt
  have l' : (y' (1 : Fin 4)).val < 1 := (y' (1 : Fin 4)).isLt
  exact Fin.ext (by omega)

theorem tabOut_at (c : Dev nD) (b j : Fin 4) (r : Fin 512) (ch : Fin 128) :
    (tabOut V c : S8192x128.Idx → Elt F .f32) (ix2 (⟨(4 * b.val + j.val) * 512 + r.val, by omega⟩ : Fin 8192) ch) = k0_pay2 (k0_pay3 (xPart V c (pt0 b j))) (ix2 r ch) := by
  have h := (dat0 V c).arrAt_emb_eq_flushed 2 disj0_2 (pt0 b j) (flush0_2 _) (ix2 r ch : S512x128.Idx)
  rw [emb0_2] at h
  exact h

theorem xPart_at (c : Dev nD) (b j : Fin 4) (ch : Fin 128) (r : Fin 512) :
    xPart V c (pt0 b j) (ix3 0 ch r) = (V c main_arg0 : S4x128x2048.Idx → Elt F .f32) (ix3 b ch (⟨j.val * 512 + r.val, by omega⟩ : Fin 2048)) := by
  refine congrArg (V c main_arg0 : S4x128x2048.Idx → Elt F .f32) (funext fun a => Fin.ext (((cfg0.win 1).rect_emb_val (pt0 b j) _ a).trans ?_))
  rw [index0_1]
  match a with
  | ⟨0, _⟩ => exact Nat.mul_one _
  | ⟨1, _⟩ => exact Nat.zero_add _
  | ⟨2, _⟩ => exact rfl

theorem xAll_at (c : Dev nD) (b j : Fin 4) (ch : Fin 128) (n : Fin 2048) :
    xAll V c (pt0 b j) (ix3 0 ch n) = (V c main_arg0 : S4x128x2048.Idx → Elt F .f32) (ix3 b ch n) := by
  refine congrArg (V c main_arg0 : S4x128x2048.Idx → Elt F .f32) (funext fun a => Fin.ext (((cfg0.win 0).rect_emb_val (pt0 b j) _ a).trans ?_))
  rw [index0_0]
  match a with
  | ⟨0, _⟩ => exact Nat.mul_one _
  | ⟨1, _⟩ => exact Nat.zero_add _
  | ⟨2, _⟩ => exact Nat.zero_add _

theorem tabOut_eq (c : Dev nD) (b : Fin 4) (n : Fin 2048) (ch : Fin 128) :
    (tabOut V c : S8192x128.Idx → Elt F .f32) (ix2 (⟨b.val * 2048 + n.val, by omega⟩ : Fin 8192) ch) = (V c main_arg0 : S4x128x2048.Idx → Elt F .f32) (ix3 b ch n) := by
  have h := tabOut_at V c b (⟨n.val / 512, by omega⟩ : Fin 4) (⟨n.val % 512, by omega⟩ : Fin 512) ch
  have e : (⟨(4 * b.val + n.val / 512) * 512 + n.val % 512, by omega⟩ : Fin 8192) = ⟨b.val * 2048 + n.val, by omega⟩ := Fin.ext (by show (4 * b.val + n.val / 512) * 512 + n.val % 512 = b.val * 2048 + n.val; omega)
  rw [show (ix2 (⟨(4 * b.val + n.val / 512) * 512 + n.val % 512, by omega⟩ : Fin 8192) ch) = ix2 (⟨b.val * 2048 + n.val, by omega⟩ : Fin 8192) ch from congrArg (fun q => ix2 q ch) e] at h
  rw [h]
  pointwise [k0_pay2, k0_pay3]
  rw [xPart_at]
  exact congrArg (V c main_arg0 : S4x128x2048.Idx → Elt F .f32) (congrArg (ix3 b ch) (Fin.ext (by show n.val / 512 * 512 + n.val % 512 = n.val; omega)))

theorem idxOut_at (c : Dev nD) (b j : Fin 4) (k : Fin 2) (r : Fin 512) :
    (idxOut V c : S2x16x1x512.Idx → BitVec 32) (ix4 k (⟨4 * b.val + j.val, by omega⟩ : Fin 16) 0 r)
      = picks (grid0.coords (pt0 b j)) (xAll V c (pt0 b j)) (xPart V c (pt0 b j)) (ix4 k 0 0 r) := by
  have h := (dat0 V c).arrAt_emb_eq_flushed 3 disj0_3 (pt0 b j) (flush0_3 _) (ix4 k 0 0 r : S2x1x1x512.Idx)
  rw [emb0_3] at h
  exact h

/-! ## The convolution call -/

def pt2 (b j : Fin 4) : Fin cfg2.N := ⟨4 * b.val + j.val, by have h : cfg2.N = 16 := N_2; omega⟩

theorem index2_0 : ∀ b j : Fin 4, (cfg2.win 0).index (pt2 b j) = (![b.val, j.val, 0] : Fin 3 → Nat) := by decide
theorem index2_1 : ∀ b j : Fin 4, (cfg2.win 1).index (pt2 b j) = (![0, b.val, j.val, 0] : Fin 4 → Nat) := by decide
theorem index2_2 : ∀ b j : Fin 4, (cfg2.win 2).index (pt2 b j) = (![0, 0, 0] : Fin 3 → Nat) := by decide
theorem index2_3 : ∀ b j : Fin 4, (cfg2.win 3).index (pt2 b j) = (![0, 0] : Fin 2 → Nat) := by decide
theorem index2_4 : ∀ t : Fin cfg2.N, (cfg2.win 4).index t = (![t.val / 4, 0, t.val % 4] : Fin 3 → Nat) := by decide

theorem disj2_4 : ∀ t t' : Fin cfg2.N, (cfg2.win 4).flush t = true → (cfg2.win 4).flush t' = true → t ≠ t' →
    Disjoint ((cfg2.win 4).blk t).view.set ((cfg2.win 4).blk t').view.set := by
  intro t t' _ _ hne
  refine Finset.disjoint_left.2 fun i hi hi' => hne ?_
  obtain ⟨y, e⟩ := View.exists_emb_of_mem_set _ hi
  obtain ⟨y', e'⟩ := View.exists_emb_of_mem_set _ hi'
  have e0 : (((cfg2.win 4).rect t).emb y (0 : Fin 3)).val = (((cfg2.win 4).rect t').emb y' (0 : Fin 3)).val :=
    congrArg Fin.val (congrFun (e.trans e'.symm : (((cfg2.win 4).blk t).view.emb y : S4x128x2048.Idx) = ((cfg2.win 4).blk t').view.emb y') (0 : Fin 3))
  have f0 : (((cfg2.win 4).rect t).emb y (2 : Fin 3)).val = (((cfg2.win 4).rect t').emb y' (2 : Fin 3)).val :=
    congrArg Fin.val (congrFun (e.trans e'.symm : (((cfg2.win 4).blk t).view.emb y : S4x128x2048.Idx) = ((cfg2.win 4).blk t').view.emb y') (2 : Fin 3))
  rw [(cfg2.win 4).rect_emb_val, (cfg2.win 4).rect_emb_val, index2_4, index2_4] at e0 f0
  have e1 : t.val / 4 * 1 + (y (0 : Fin 3)).val = t'.val / 4 * 1 + (y' (0 : Fin 3)).val := e0
  have f1 : t.val % 4 * 512 + (y (2 : Fin 3)).val = t'.val % 4 * 512 + (y' (2 : Fin 3)).val := f0
  have l : (y (0 : Fin 3)).val < 1 := (y (0 : Fin 3)).isLt
  have l' : (y' (0 : Fin 3)).val < 1 := (y' (0 : Fin 3)).isLt
  have k : (y (2 : Fin 3)).val < 512 := (y (2 : Fin 3)).isLt
  have k' : (y' (2 : Fin 3)).val < 512 := (y' (2 : Fin 3)).isLt
  exact Fin.ext (by omega)

theorem emb2_4 (b j : Fin 4) (o : Fin 128) (r : Fin 512) :
    (((cfg2.win 4).blk (pt2 b j)).view.emb (ix3 0 o r : S1x128x512.Idx) : S4x128x2048.Idx) = ix3 b o (⟨j.val * 512 + r.val, by omega⟩ : Fin 2048) := by
  funext a
  refine Fin.ext (((cfg2.win 4).rect_emb_val (pt2 b j) _ a).trans ?_)
  rw [index2_4]
  have hb : (4 * b.val + j.val) / 4 = b.val := by omega
  have hj : (4 * b.val + j.val) % 4 = j.val := by omega
  match a with
  | ⟨0, _⟩ => exact (Nat.mul_one _).trans hb
  | ⟨1, _⟩ => exact Nat.zero_add _
  | ⟨2, _⟩ => exact congrArg (fun q => q * 512 + r.val) hj

theorem convOut_at (c : Dev nD) (b j : Fin 4) (o : Fin 128) (r : Fin 512) :
    (convOut V c : S4x128x2048.Idx → Elt F .f32) (ix3 b o (⟨j.val * 512 + r.val, by omega⟩ : Fin 2048))
      = convBlk (cTab V c (pt2 b j)) (cGath V c (pt2 b j)) (cW V c (pt2 b j)) (cB V c (pt2 b j)) (ix3 0 o r) := by
  have h := (dat1 V c).arrAt_emb_eq_flushed 4 disj2_4 (pt2 b j) (flush2_4 _) (ix3 0 o r : S1x128x512.Idx)
  rw [emb2_4] at h
  exact h

theorem cTab_at (c : Dev nD) (b j : Fin 4) (r : Fin 512) (ch : Fin 128) :
    cTab V c (pt2 b j) (ix3 0 r ch) = (V c main_v4 : S4x2048x128.Idx → Elt F .f32) (ix3 b (⟨j.val * 512 + r.val, by omega⟩ : Fin 2048) ch) := by
  refine congrArg (V c main_v4 : S4x2048x128.Idx → Elt F .f32) (funext fun a => Fin.ext (((cfg2.win 0).rect_emb_val (pt2 b j) _ a).trans ?_))
  rw [index2_0]
  match a with
  | ⟨0, _⟩ => exact Nat.mul_one _
  | ⟨1, _⟩ => exact rfl
  | ⟨2, _⟩ => exact Nat.zero_add _

theorem cGath_at (c : Dev nD) (b j : Fin 4) (k : Fin 2) (r : Fin 512) (ch : Fin 128) :
    cGath V c (pt2 b j) (ix4 k 0 r ch) = (V c main_v3 : S2x4x2048x128.Idx → Elt F .f32) (ix4 k b (⟨j.val * 512 + r.val, by omega⟩ : Fin 2048) ch) := by
  refine congrArg (V c main_v3 : S2x4x2048x128.Idx → Elt F .f32) (funext fun a => Fin.ext (((cfg2.win 1).rect_emb_val (pt2 b j) _ a).trans ?_))
  rw [index2_1]
  match a with
  | ⟨0, _⟩ => exact Nat.zero_add _
  | ⟨1, _⟩ => exact Nat.mul_one _
  | ⟨2, _⟩ => exact rfl
  | ⟨3, _⟩ => exact Nat.zero_add _

theorem cW_at (c : Dev nD) (b j : Fin 4) (k : Fin 3) (o ch : Fin 128) :
    cW V c (pt2 b j) (ix3 k o ch) = (V c main_v5 : S3x128x128.Idx → Elt F .f32) (ix3 k o ch) := by
  refine congrArg (V c main_v5 : S3x128x128.Idx → Elt F .f32) (funext fun a => Fin.ext (((cfg2.win 2).rect_emb_val (pt2 b j) _ a).trans ?_))
  rw [index2_2]
  match a with
  | ⟨0, _⟩ => exact Nat.zero_add _
  | ⟨1, _⟩ => exact Nat.zero_add _
  | ⟨2, _⟩ => exact Nat.zero_add _

theorem cB_at (c : Dev nD) (b j : Fin 4) (o : Fin 128) :
    cB V c (pt2 b j) (ix2 0 o) = (V c main_v6 : S1x128.Idx → Elt F .f32) (ix2 0 o) := by
  refine congrArg (V c main_v6 : S1x128.Idx → Elt F .f32) (funext fun a => Fin.ext (((cfg2.win 3).rect_emb_val (pt2 b j) _ a).trans ?_))
  rw [index2_3]
  match a with
  | ⟨0, _⟩ => exact Nat.zero_add _
  | ⟨1, _⟩ => exact Nat.zero_add _

end Cert.Proof.KNN

end
-- ==== Proof.Order.lean ====
/-
  Least positions: the first least entry of a row, found by two minima over extended reals; the first three entries of
  a stable sort; and the comparison of "this point, then the two nearest others" with "the three nearest".
-/
module

public import Idealize.ShloMosaic.PureOps.Ideal
public import Idealize.ShloMosaic.PureOps.ShapeOps
public import Idealize.ShloMosaic.Lib.SortFacts
public import Idealize.ShloMosaic.Lib.SortPrefix

@[expose] public section

noncomputable section

namespace Cert.Proof.KNN

open Idealize.ShloMosaic

/-! ## The first least entry -/

/-- `p` is the first of the least entries of `f` among the positions of `S`: by value, then by position. -/
def First {N : Nat} {α : Type} [LinearOrder α] (f : Fin N → α) (S : Fin N → Prop) (p : Fin N) : Prop :=
  S p ∧ ∀ u, S u → f p < f u ∨ (f p = f u ∧ p ≤ u)

section
variable {N : Nat} {α : Type} [LinearOrder α] {f : Fin N → α}

theorem First.unique {S : Fin N → Prop} {p q : Fin N} (hp : First f S p) (hq : First f S q) : p = q := by
  rcases hp.2 q hq.1 with h | ⟨h, h1⟩ <;> rcases hq.2 p hp.1 with g | ⟨g, g1⟩
  · exact absurd g (not_lt.2 h.le)
  · exact absurd h (by rw [g]; exact lt_irrefl _)
  · exact absurd g (by rw [h]; exact lt_irrefl _)
  · exact le_antisymm h1 g1

theorem First.le {S : Fin N → Prop} {p : Fin N} (hp : First f S p) (u : Fin N) (hu : S u) : f p ≤ f u := by
  rcases hp.2 u hu with h | h
  · exact h.le
  · exact h.1.le

theorem First.mono {S T : Fin N → Prop} {p : Fin N} (hp : First f S p) (hT : T p) (h : ∀ u, T u → S u) : First f T p :=
  ⟨hT, fun u hu => hp.2 u (h u hu)⟩

/-- The point `n` itself and the first two of the others show the same entries of any `col` as the first three of all,
    where the least value is `n`'s and every point of that value shows what `n` shows. -/
theorem same_three {β : Type} (col : Fin N → β) (n p0 p1 q0 q1 q2 : Fin N)
    (hmin : ∀ u, f n ≤ f u) (hcol : ∀ u, f u = f n → col u = col n)
    (hp0 : First f (fun u => u ≠ n) p0) (hp1 : First f (fun u => u ≠ n ∧ u ≠ p0) p1)
    (hq0 : First f (fun _ => True) q0) (hq1 : First f (fun u => u ≠ q0) q1) (hq2 : First f (fun u => u ≠ q0 ∧ u ≠ q1) q2) :
    col q0 = col n ∧ col q1 = col p0 ∧ col q2 = col p1 := by
  have z : ∀ u, f u ≤ f n → col u = col n := fun u hu => hcol u (le_antisymm hu (hmin u))
  have h0 : col q0 = col n := z q0 (hq0.le n trivial)
  refine ⟨h0, ?_⟩
  by_cases e : q0 = n
  · subst e
    have e1 : q1 = p0 := hq1.unique hp0
    subst e1
    exact ⟨rfl, congrArg col (hq2.unique hp1)⟩
  · have ep : p0 = q0 := hp0.unique (hq0.mono e fun _ _ => trivial)
    subst ep
    have h1 : col q1 = col n := z q1 (hq1.le n fun h => e h.symm)
    refine ⟨h1.trans h0.symm, ?_⟩
    by_cases e1 : q1 = n
    · subst e1
      have hp1' : First f (fun u => u ≠ p0 ∧ u ≠ q1) p1 := hp1.mono ⟨hp1.1.2, hp1.1.1⟩ fun u hu => ⟨hu.2, hu.1⟩
      exact congrArg col (hq2.unique hp1')
    · have e2 : p1 = q1 := hp1.unique (hq1.mono ⟨e1, hq1.1⟩ fun u hu => hu.2)
      subst e2
      exact (z q2 (hq2.le n ⟨fun h => e h.symm, fun h => e1 h.symm⟩)).trans h1.symm

end

/-! ## One round of the kernel's search -/

/-- Two minima find the first least entry: the least value, then the least position holding it. -/
theorem round_first {N : Nat} (hN : 0 < N) (B : EReal) (hB : ∀ u : Fin N, (((u.val : ℝ)) : EReal) < B) (d : Fin N → EReal) :
    ∃ p : Fin N, First d (fun _ => True) p
      ∧ (Finset.univ.fold min (⊤ : EReal) fun u => if d u = Finset.univ.fold min (⊤ : EReal) d then (((u.val : ℝ)) : EReal) else B) = ((p.val : ℝ) : EReal)
      ∧ ∀ u : Fin N, ((if d u = Finset.univ.fold min (⊤ : EReal) d then (((u.val : ℝ)) : EReal) else B) = ((p.val : ℝ) : EReal)) ↔ u = p := by
  obtain ⟨u0, -, hu0⟩ := Finset.exists_min_image (Finset.univ : Finset (Fin N)) d ⟨⟨0, hN⟩, Finset.mem_univ _⟩
  have hm : Finset.univ.fold min (⊤ : EReal) d = d u0 :=
    le_antisymm ((Finset.fold_min_le _).2 (Or.inr ⟨u0, Finset.mem_univ _, le_rfl⟩))
      ((Finset.le_fold_min _).2 ⟨le_top, fun x hx => hu0 x hx⟩)
  obtain ⟨p, hp, hpm⟩ := Finset.exists_min_image (Finset.univ.filter fun u => d u = d u0) id ⟨u0, by simp⟩
  have hpd : d p = d u0 := (Finset.mem_filter.1 hp).2
  have hlt : ∀ u : Fin N, u < p → d u ≠ d u0 := fun u hu e =>
    absurd (hpm u (Finset.mem_filter.2 ⟨Finset.mem_univ _, e⟩)) (not_le.2 hu)
  rw [hm]
  refine ⟨p, ⟨trivial, fun u _ => ?_⟩, ?_, fun u => ?_⟩
  · rcases lt_or_eq_of_le (hu0 u (Finset.mem_univ _)) with h | h
    · exact Or.inl (hpd ▸ h)
    · exact Or.inr ⟨hpd.trans h, not_lt.1 fun hu => hlt u hu h.symm⟩
  · refine le_antisymm ((Finset.fold_min_le _).2 (Or.inr ⟨p, Finset.mem_univ _, by rw [if_pos hpd]⟩)) ((Finset.le_fold_min _).2 ⟨le_top, fun u _ => ?_⟩)
    by_cases e : d u = d u0
    · rw [if_pos e]
      have : p ≤ u := not_lt.1 fun hu => hlt u hu e
      exact_mod_cast this
    · rw [if_neg e]
      exact (hB p).le
  · by_cases e : d u = d u0
    · rw [if_pos e, EReal.coe_eq_coe_iff, Nat.cast_inj]
      exact ⟨fun h => Fin.ext h, fun h => congrArg _ h⟩
    · rw [if_neg e]
      exact ⟨fun h => absurd h (hB p).ne', fun h => absurd (h ▸ hpd) e⟩

/-! ## The first entries of a stable sort -/

theorem stableSort_refine {N : Nat} (R B : Fin N → Fin N → Bool) (h : ∀ a b, a < b → R b a = B b a) (l : List (Fin N))
    (hl : l.Pairwise (· < ·)) : stableSort R l = stableSort B l := by
  induction l with
  | nil => rfl
  | cons a l ih =>
    rw [List.pairwise_cons] at hl
    show insertBefore R a (stableSort R l) = insertBefore B a (stableSort B l)
    rw [ih hl.2]
    exact insertBefore_congr R B a _ fun b hb => h a b (hl.1 b ((perm_stableSort B l).mem_iff.1 hb))

section
variable {N : Nat} (f : Fin N → EReal)

/-- Before, by value and then by position. -/
def lexB (u v : Fin N) : Bool := decide (f u < f v) || (decide (f u = f v) && decide (u < v))

theorem lexB_total : StrictTotalBefore (lexB f) :=
  StrictTotalBefore.of_key_then_position (fun a b => decide (a < b)) f (fun a => by simp)
    (fun a b c h g => by simp only [decide_eq_true_eq] at *; exact h.trans g)
    (fun a b => by simp only [decide_eq_true_eq]; exact lt_trichotomy a b)

theorem sortedFrom_eq_lex (R : Fin N → Fin N → Bool) (hR : ∀ u v, R u v = decide (f u < f v)) : sortedFrom R = sortedFrom (lexB f) := by
  have : sortPositions N R = sortPositions N (lexB f) :=
    stableSort_refine R (lexB f) (fun a b h => by
      rw [hR, lexB, decide_eq_false (p := b < a) (not_lt.2 h.le), Bool.and_false, Bool.or_false]) _ (List.pairwise_lt_finRange N)
  funext k
  unfold sortedFrom
  simp only [List.get_eq_getElem, this]
  rfl

/-- The `k`-th entry of the sort is the first least of the positions that are not among the earlier ones. -/
theorem sorted_first (R : Fin N → Fin N → Bool) (hR : ∀ u v, R u v = decide (f u < f v)) (k : Fin N) :
    First f (fun u => ∀ j, j < k → u ≠ sortedFrom R j) (sortedFrom R k) := by
  rw [sortedFrom_eq_lex f R hR]
  refine ⟨fun j hj h => absurd (sortedFrom_injective _ h) (ne_of_gt hj), fun u hu => ?_⟩
  obtain ⟨i, rfl⟩ := sortedFrom_surjective (lexB f) u
  have hki : k ≤ i := not_lt.1 fun h => hu i h rfl
  rcases lt_or_eq_of_le hki with h | h
  · have hB := lexB_total f
    have := sortedFrom_noInversion (lexB f) (lexB f) (fun a b h => hB.asymm a b h) (fun _ _ h => h) hB.negTrans k i h
    simp only [lexB, Bool.or_eq_false_iff, Bool.and_eq_false_iff, decide_eq_false_iff_not, not_lt] at this
    rcases lt_or_eq_of_le this.1 with g | g
    · exact Or.inl g
    · rcases this.2 with g' | g'
      · exact absurd g.symm g'
      · exact Or.inr ⟨g, g'⟩
  · subst h
    exact Or.inr ⟨rfl, le_rfl⟩

end

end Cert.Proof.KNN

end
-- ==== Proof.Select.lean ====
/-
  The kernel's search read at an entry: the distances with the point's own masked out, and the two rounds, each the
  first least entry of a row.
-/
module

public import proofs.«01_k».proof.Proof.Bodies
public import proofs.«01_k».proof.Proof.Order
public import Idealize.ShloMosaic.Lib.Pointwise

@[expose] public section

noncomputable section

namespace Cert.Proof.KNN

open Cert.KernelIdeal Cert.KernelIdeal.Gen
open Idealize.ShloMosaic Idealize.ShloMosaic.Pointwise

/-- The distance the kernel computes between point `r` of the block `Y` and point `n` of the batch `X`. -/
def kDist (X : Vec Ideal S1x128x2048 .f32) (Y : Vec Ideal S1x128x512 .f32) (r : Fin 512) (n : Fin 2048) : EReal :=
  ∑ c, Y (ix3 0 c r) * Y (ix3 0 c r) + ∑ c, X (ix3 0 c n) * X (ix3 0 c n) - ∑ c, ((2 : ℝ) : EReal) * Y (ix3 0 c r) * X (ix3 0 c n)

/-- The distances with one position masked out. -/
def mask (own : Fin 2048) (d : Fin 2048 → EReal) (u : Fin 2048) : EReal := if u = own then ⊤ else d u

theorem ofBits_top : Ideal.ofBits .f32 0x7F800000#32 = (⊤ : EReal) := by simp [Ideal.ofBits, Ideal.ieee]

theorem ofBits_two : Ideal.ofBits .f32 0x40000000#32 = ((2 : ℝ) : EReal) := by
  simp [Ideal.ofBits, Ideal.ieee]
  rw [← EReal.coe_mul]
  norm_num

theorem ofBits_2048 : Ideal.ofBits .f32 0x45000000#32 = ((2048 : ℝ) : EReal) := by
  simp [Ideal.ofBits, Ideal.ieee]
  rw [← EReal.coe_mul]
  norm_num

theorem toInt_lt (k : Nat) (hk : k < 2 ^ 31) : (BitVec.ofNat 32 k).toInt = (k : Int) := by
  rw [BitVec.toInt_ofNat']
  simp [Int.bmod]
  omega

theorem sitofp_nat (k : Nat) (hk : k < 2 ^ 31) : (FloatOps.sitofp (F := Ideal) FTy.f32 (BitVec.ofNat 32 k) : EReal) = ((k : ℝ) : EReal) := by
  show (((BitVec.ofNat 32 k).toInt : ℝ) : EReal) = _
  rw [toInt_lt k hk]
  simp

/-- The point's own position in its batch. -/
def own (j : Fin 4) (r : Fin 512) : Fin 2048 := ⟨512 * j.val + r.val, by omega⟩

theorem pay5_at (i : grid0.Coords) (j : Fin 4) (hj : (i 1).val = j.val) (X : Vec Ideal S1x128x2048 .f32) (Y : Vec Ideal S1x128x512 .f32) (r : Fin 512) (n : Fin 2048) :
    k0_pay5 (F := Ideal) i X Y (ix2 r n) = mask (own j r) (kDist X Y r) n := by
  pointwise [k0_pay5, k0_pay4, k0_pay3]
  rw [sitofp_nat _ (by omega), sitofp_nat _ (by omega), ofBits_top, ofBits_two]
  have hm : (Scalar.muli (BitVec.ofNat 32 (i 1).val) 512#32).toInt = ((512 * j.val : Nat) : Int) := by
    have : Scalar.muli (BitVec.ofNat 32 (i 1).val) 512#32 = BitVec.ofNat 32 (512 * j.val) := by
      show BitVec.ofNat 32 (i 1).val * 512#32 = _
      rw [hj, show (512#32 : BitVec 32) = BitVec.ofNat 32 512 from rfl, ← BitVec.ofNat_mul, Nat.mul_comm]
    rw [this, toInt_lt _ (by omega)]
  have hc : (((n.val : ℝ) : EReal) = ((r.val : ℝ) : EReal) + (((Scalar.muli (BitVec.ofNat 32 (i 1).val) 512#32).toInt : ℝ) : EReal)) ↔ n = own j r := by
    rw [hm, ← EReal.coe_add, EReal.coe_eq_coe_iff]
    constructor
    · intro h
      have h' : n.val = r.val + 512 * j.val := by exact_mod_cast h
      exact Fin.ext (by show n.val = 512 * j.val + r.val; omega)
    · intro h
      rw [h]
      show ((512 * j.val + r.val : Nat) : ℝ) = _
      push_cast
      ring
  simp only [hc]
  rfl

theorem pay6_at (i : grid0.Coords) (X : Vec Ideal S1x128x2048 .f32) (Y : Vec Ideal S1x128x512 .f32) (r : Fin 512) (d : Fin 2048 → EReal)
    (hd : ∀ n, k0_pay5 (F := Ideal) i X Y (ix2 r n) = d n) (n : Fin 2048) :
    k0_pay6 (F := Ideal) i X Y (ix2 r n) = if d n = Finset.univ.fold min (⊤ : EReal) d then ((n.val : ℝ) : EReal) else ((2048 : ℝ) : EReal) := by
  pointwise [k0_pay6, k0_pay4]
  rw [sitofp_nat _ (by omega), ofBits_top, ofBits_2048]
  simp only [hd]

theorem pay7_at (i : grid0.Coords) (X : Vec Ideal S1x128x2048 .f32) (Y : Vec Ideal S1x128x512 .f32) (r : Fin 512) :
    k0_pay7 (F := Ideal) i X Y (ix2 r (0 : Fin 1)) = Finset.univ.fold min (⊤ : EReal) fun n => k0_pay6 (F := Ideal) i X Y (ix2 r n) := by
  pointwise [k0_pay7]
  rw [ofBits_top]

theorem pay8_at (i : grid0.Coords) (X : Vec Ideal S1x128x2048 .f32) (Y : Vec Ideal S1x128x512 .f32) (r : Fin 512) (n : Fin 2048) :
    k0_pay8 (F := Ideal) i X Y (ix2 r n) = BitVec.ofBool (decide (k0_pay6 (F := Ideal) i X Y (ix2 r n) = k0_pay7 (F := Ideal) i X Y (ix2 r (0 : Fin 1)))) := by
  pointwise [k0_pay8]

theorem fptosi_pos (p : Fin 2048) (w : Fin 4) :
    IntOp.addi (FloatOps.fptosi (F := Ideal) (φ := .f32) 32 ((p.val : ℝ) : EReal)) (Scalar.muli (BitVec.ofNat 32 w.val) 2048#32)
      = BitVec.ofNat 32 (p.val + 2048 * w.val) := by
  have h1 : FloatOps.fptosi (F := Ideal) (φ := .f32) 32 ((p.val : ℝ) : EReal) = BitVec.ofNat 32 p.val := by
    show BitVec.ofInt 32 (Ideal.toIntClamped (-(2 ^ (32 - 1))) (2 ^ (32 - 1) - 1) ((p.val : ℝ) : EReal)) = _
    have hp := p.isLt
    rw [Ideal.toIntClamped_coe, if_pos (Nat.cast_nonneg _), Int.floor_natCast, min_eq_right (by norm_num; omega), max_eq_right (by norm_num)]
    exact BitVec.ofInt_natCast ..
  rw [h1]
  show BitVec.ofNat 32 p.val + BitVec.ofNat 32 w.val * 2048#32 = _
  rw [show (2048#32 : BitVec 32) = BitVec.ofNat 32 2048 from rfl, ← BitVec.ofNat_mul, ← BitVec.ofNat_add, Nat.mul_comm]

/-- The two rows the kernel lists for point `r` of a block, and the numbers it stores for them. -/
theorem picks_at (i : grid0.Coords) (w j : Fin 4) (hw : (i 0).val = w.val) (hj : (i 1).val = j.val) (X : Vec Ideal S1x128x2048 .f32) (Y : Vec Ideal S1x128x512 .f32) (r : Fin 512) :
    ∃ p0 p1 : Fin 2048, First (mask (own j r) (kDist X Y r)) (fun _ => True) p0
      ∧ First (mask p0 (mask (own j r) (kDist X Y r))) (fun _ => True) p1
      ∧ picks (F := Ideal) i X Y (ix4 (0 : Fin 2) (0 : Fin 1) (0 : Fin 1) r) = BitVec.ofNat 32 (p0.val + 2048 * w.val)
      ∧ picks (F := Ideal) i X Y (ix4 (1 : Fin 2) (0 : Fin 1) (0 : Fin 1) r) = BitVec.ofNat 32 (p1.val + 2048 * w.val) := by
  have hB : ∀ u : Fin 2048, ((u.val : ℝ) : EReal) < ((2048 : ℝ) : EReal) := fun u => by
    rw [EReal.coe_lt_coe_iff]
    exact_mod_cast u.isLt
  obtain ⟨p0, hp0, e0, c0⟩ := round_first (by decide) _ hB (mask (own j r) (kDist X Y r))
  obtain ⟨p1, hp1, e1, -⟩ := round_first (by decide) _ hB (mask p0 (mask (own j r) (kDist X Y r)))
  have h6 := pay6_at i X Y r _ (pay5_at i j hj X Y r)
  have h7 : k0_pay7 (F := Ideal) i X Y (ix2 r (0 : Fin 1)) = ((p0.val : ℝ) : EReal) := by
    rw [pay7_at]; simp only [h6]; exact e0
  have h8 : ∀ n, k0_pay8 (F := Ideal) i X Y (ix2 r n) = BitVec.ofBool (decide (n = p0)) := fun n => by
    rw [pay8_at, h7, h6]
    exact congrArg BitVec.ofBool (decide_eq_decide.2 (c0 n))
  refine ⟨p0, p1, hp0, hp1, ?_, ?_⟩
  · pointwise [picks, k0_pay1]
    rw [h7, hw]
    exact fptosi_pos p0 w
  · have hs : ∀ n : Fin 2048, (Scalar.select (k0_pay8 (F := Ideal) i X Y (ix2 r n)) (k0_pay9 (F := Ideal) (ix2 r n)) (k0_pay5 (F := Ideal) i X Y (ix2 r n)) : EReal)
        = mask p0 (mask (own j r) (kDist X Y r)) n := fun n => by
      rw [h8, pay5_at i j hj]
      have h9 : (k0_pay9 (F := Ideal) (ix2 r n) : EReal) = ⊤ := by
        pointwise [k0_pay9]
        exact ofBits_top
      rw [h9]
      by_cases h : n = p0
      · simp [h, mask, Scalar.select]
      · simp [h, mask, Scalar.select]
    have h4 : ∀ n : Fin 2048, (k0_pay4 (F := Ideal) (ix2 r n) : EReal) = ((n.val : ℝ) : EReal) := fun n => by
      pointwise [k0_pay4]
      exact sitofp_nat _ (by omega)
    pointwise [picks, k0_pay1]
    simp only [hs, h4, ofBits_top, ofBits_2048]
    rw [hw]
    erw [e1]
    exact fptosi_pos p1 w

end Cert.Proof.KNN

end
-- ==== Proof.Values.lean ====
/-
  The contents of the program's buffers read at an entry, from the list the first call leaves to the result of the last.
-/
module

public import proofs.«01_k».proof.Proof.Launch
public import proofs.«01_k».proof.Proof.Arrays
public import proofs.«01_k».proof.Proof.Select

@[expose] public section

noncomputable section

namespace Cert.Proof.KNN

open Cert.KernelIdeal Cert.KernelIdeal.Gen
open Idealize.ShloMosaic Idealize.ShloMosaic.TcCoe Idealize.ShloMosaic.Pointwise
open Idealize.SL Idealize.SL.Sem

section
variable {F : FTy → Type} [FloatOps F] [∀ e, Nonempty (Elt F e)]
variable (m : (ℓ : Loc nD τ sig) → Buf (Elt F) ℓ)

theorem cast_list {α : Type} (X : S2x16x1x512.Idx → α) (k : Fin 2) (b j : Fin 4) (r : Fin 512) :
    shapeCast S16384 X shapeCasts_S2x16x1x512_S16384 (ix1 (⟨k.val * 8192 + (b.val * 2048 + (j.val * 512 + r.val)), by omega⟩ : Fin 16384))
      = X (ix4 k (⟨4 * b.val + j.val, by omega⟩ : Fin 16) 0 r) := by
  refine Idealize.ShloMosaic.shapeCast_apply _ _ _ _ ?_
  rw [Shape.rowMajor_val_one, Shape.rowMajor_val_four]
  show ((k.val * 16 + (4 * b.val + j.val)) * 1 + 0) * 512 + r.val = k.val * 8192 + (b.val * 2048 + (j.val * 512 + r.val))
  omega

theorem cast_gath {α : Type} (X : S16384x128.Idx → α) (k : Fin 2) (b : Fin 4) (n : Fin 2048) (ch : Fin 128) :
    shapeCast S2x4x2048x128 X shapeCasts_S16384x128_S2x4x2048x128 (ix4 k b n ch)
      = X (ix2 (⟨k.val * 8192 + (b.val * 2048 + n.val), by omega⟩ : Fin 16384) ch) := by
  refine Idealize.ShloMosaic.shapeCast_apply _ _ _ _ ?_
  rw [Shape.rowMajor_val_two, Shape.rowMajor_val_four]
  show (k.val * 8192 + (b.val * 2048 + n.val)) * 128 + ch.val = ((k.val * 4 + b.val) * 2048 + n.val) * 128 + ch.val
  omega

theorem cast_tab {α : Type} (X : S8192x128.Idx → α) (b : Fin 4) (n : Fin 2048) (ch : Fin 128) :
    shapeCast S4x2048x128 X shapeCasts_S8192x128_S4x2048x128 (ix3 b n ch) = X (ix2 (⟨b.val * 2048 + n.val, by omega⟩ : Fin 8192) ch) := by
  refine Idealize.ShloMosaic.shapeCast_apply _ _ _ _ ?_
  rw [Shape.rowMajor_val_two, Shape.rowMajor_val_three]
  rfl

theorem cast_bias {α : Type} (X : S128.Idx → α) (o : Fin 128) : shapeCast S1x128 X shapeCasts_S128_S1x128 (ix2 (0 : Fin 1) o) = X (ix1 o) := by
  refine Idealize.ShloMosaic.shapeCast_apply _ _ _ _ ?_
  rw [Shape.rowMajor_val_one, Shape.rowMajor_val_two]
  show o.val = 0 * 128 + o.val
  omega

theorem op1_ne (W : Valuation τ sig (Elt F)) (r : Ref sig .tc) (h : r ≠ main_v1) : op1.result W (Proc.devRef .tc r) = W (Proc.devRef .tc r) := StableHlo.reshape_result_ne main_v0_1 main_v1 _ _ _ _ W h
theorem op3_ne (W : Valuation τ sig (Elt F)) (r : Ref sig .tc) (h : r ≠ main_v3) : op3.result W (Proc.devRef .tc r) = W (Proc.devRef .tc r) := StableHlo.reshape_result_ne main_v2 main_v3 _ _ _ _ W h
theorem op4_ne (W : Valuation τ sig (Elt F)) (r : Ref sig .tc) (h : r ≠ main_v4) : op4.result W (Proc.devRef .tc r) = W (Proc.devRef .tc r) := StableHlo.reshape_result_ne main_v0_0 main_v4 _ _ _ _ W h
theorem op5_ne (W : Valuation τ sig (Elt F)) (r : Ref sig .tc) (h : r ≠ main_v5) : op5.result W (Proc.devRef .tc r) = W (Proc.devRef .tc r) := StableHlo.unary_result_ne main_arg1 main_v5 _ _ _ W h
theorem op6_ne (W : Valuation τ sig (Elt F)) (r : Ref sig .tc) (h : r ≠ main_v6) : op6.result W (Proc.devRef .tc r) = W (Proc.devRef .tc r) := StableHlo.reshape_result_ne main_arg2 main_v6 _ _ _ _ W h

theorem w3_ne (d : Dev nD) (r : Ref sig .tc) (h : r ≠ main_v2) : at' (W3 m) d r = at' (W2 m) d r := Function.update_of_ne (devRef_ne h) _ _
theorem w2_ne (d : Dev nD) (r : Ref sig .tc) (h : r ≠ main_v1) : at' (W2 m) d r = at' (W1 m) d r := op1_ne _ _ h
theorem w7_ne (d : Dev nD) (r : Ref sig .tc) (h3 : r ≠ main_v3) (h4 : r ≠ main_v4) (h5 : r ≠ main_v5) (h6 : r ≠ main_v6) : at' (W7 m) d r = at' (W3 m) d r :=
  (op6_ne _ _ h6).trans ((op5_ne _ _ h5).trans ((op4_ne _ _ h4).trans (op3_ne _ _ h3)))

theorem ix_cast (d : Dev nD) : IX m d = shapeCast S16384 (idxOut (at' (W0 m)) d : S2x16x1x512.Idx → BitVec 32) shapeCasts_S2x16x1x512_S16384 := by
  have h : IX m d = shapeCast S16384 (at' (W1 m) d main_v0_1 : S2x16x1x512.Idx → BitVec 32) shapeCasts_S2x16x1x512_S16384 := by
    show op1.result (W1 m d) (Proc.devRef .tc main_v1) = _
    exact StableHlo.reshape_result' ..
  rw [h, w1_1]

theorem ix_at (d : Dev nD) (k : Fin 2) (b j : Fin 4) (r : Fin 512) :
    (IX m d : S16384.Idx → BitVec 32) (ix1 (⟨k.val * 8192 + (b.val * 2048 + (j.val * 512 + r.val)), by omega⟩ : Fin 16384))
      = picks (grid0.coords (pt0 b j)) (xAll (at' (W0 m)) d (pt0 b j)) (xPart (at' (W0 m)) d (pt0 b j)) (ix4 k 0 0 r) := by
  rw [ix_cast, ← idxOut_at]
  exact cast_list _ k b j r

theorem tb_at (d : Dev nD) (b : Fin 4) (n : Fin 2048) (ch : Fin 128) :
    (TB m d : S8192x128.Idx → Elt F .f32) (ix2 (⟨b.val * 2048 + n.val, by omega⟩ : Fin 8192) ch) = (m ((d : Thread nD τ).loc main_arg0) : S4x128x2048.Idx → Elt F .f32) (ix3 b ch n) := by
  have h : TB m d = at' (W1 m) d main_v0_0 := w2_ne m d main_v0_0 (by decide)
  rw [h, w1_0]
  exact tabOut_eq (at' (W0 m)) d b n ch

/-- The gathered row whose entry in the list names point `p` of batch `b`. -/
theorem go_at (d : Dev nD) (q : Fin 16384) (b : Fin 4) (p : Fin 2048) (ch : Fin 128)
    (h : (IX m d : S16384.Idx → BitVec 32) (ix1 q) = BitVec.ofNat 32 (p.val + 2048 * b.val)) :
    (GO (TB m) (IX m) d : S16384x128.Idx → Elt F .f32) (ix2 q ch) = (m ((d : Thread nD τ).loc main_arg0) : S4x128x2048.Idx → Elt F .f32) (ix3 b ch p) := by
  refine Eq.trans ?_ (tb_at m d b p ch)
  refine congrArg (TB m d : S8192x128.Idx → Elt F .f32) (funext fun a => ?_)
  match a with
  | ⟨0, _⟩ =>
    refine Fin.ext ?_
    show ((IX m d : S16384.Idx → BitVec 32) _).toNat % 8192 = b.val * 2048 + p.val
    have e : ((fun | 0 => q) : S16384.Idx) = ix1 q := funext fun a => match a with | ⟨0, _⟩ => rfl
    refine (congrArg (fun u => (u : BitVec 32).toNat % 8192) ((congrArg (IX m d : S16384.Idx → BitVec 32) e).trans h)).trans ?_
    show (BitVec.ofNat 32 (p.val + 2048 * b.val)).toNat % 8192 = _
    rw [BitVec.toNat_ofNat]
    omega
  | ⟨1, _⟩ => rfl

theorem w7_v3 (d : Dev nD) (k : Fin 2) (b : Fin 4) (n : Fin 2048) (ch : Fin 128) :
    (at' (W7 m) d main_v3 : S2x4x2048x128.Idx → Elt F .f32) (ix4 k b n ch)
      = (GO (TB m) (IX m) d : S16384x128.Idx → Elt F .f32) (ix2 (⟨k.val * 8192 + (b.val * 2048 + n.val), by omega⟩ : Fin 16384) ch) := by
  have h : at' (W7 m) d main_v3 = shapeCast S2x4x2048x128 (at' (W3 m) d main_v2 : S16384x128.Idx → Elt F .f32) shapeCasts_S16384x128_S2x4x2048x128 :=
    (op6_ne _ main_v3 (by decide)).trans ((op5_ne _ main_v3 (by decide)).trans
      ((op4_ne _ main_v3 (by decide)).trans (StableHlo.reshape_result' ..)))
  have h2 : at' (W3 m) d main_v2 = GO (TB m) (IX m) d := Function.update_self ..
  rw [h, h2]
  exact cast_gath _ k b n ch

/-- The run leaves its arguments as they were. -/
theorem w8_arg0 (d : Dev nD) : at' (W8 m) d main_arg0 = m ((d : Thread nD τ).loc main_arg0) := by
  rw [w8_ne _ _ _ (by decide), w7_ne _ _ _ (by decide) (by decide) (by decide) (by decide), w3_ne _ _ _ (by decide), w2_ne _ _ _ (by decide), w1_ne _ _ _ (by decide) (by decide)]
  rfl
theorem w8_arg1 (d : Dev nD) : at' (W8 m) d main_arg1 = m ((d : Thread nD τ).loc main_arg1) := by
  rw [w8_ne _ _ _ (by decide), w7_ne _ _ _ (by decide) (by decide) (by decide) (by decide), w3_ne _ _ _ (by decide), w2_ne _ _ _ (by decide), w1_ne _ _ _ (by decide) (by decide)]
  rfl
theorem w8_arg2 (d : Dev nD) : at' (W8 m) d main_arg2 = m ((d : Thread nD τ).loc main_arg2) := by
  rw [w8_ne _ _ _ (by decide), w7_ne _ _ _ (by decide) (by decide) (by decide) (by decide), w3_ne _ _ _ (by decide), w2_ne _ _ _ (by decide), w1_ne _ _ _ (by decide) (by decide)]
  rfl

theorem w7_v4 (d : Dev nD) (b : Fin 4) (n : Fin 2048) (ch : Fin 128) :
    (at' (W7 m) d main_v4 : S4x2048x128.Idx → Elt F .f32) (ix3 b n ch) = (m ((d : Thread nD τ).loc main_arg0) : S4x128x2048.Idx → Elt F .f32) (ix3 b ch n) := by
  have h : at' (W7 m) d main_v4 = shapeCast S4x2048x128 ((op3.result (W3 m d)) (Proc.devRef .tc main_v0_0) : S8192x128.Idx → Elt F .f32) shapeCasts_S8192x128_S4x2048x128 :=
    (op6_ne _ main_v4 (by decide)).trans ((op5_ne _ main_v4 (by decide)).trans (StableHlo.reshape_result' ..))
  have h2 : (op3.result (W3 m d)) (Proc.devRef .tc main_v0_0) = TB m d :=
    (op3_ne _ main_v0_0 (by decide)).trans (w3_ne m d main_v0_0 (by decide))
  rw [h, h2]
  exact (cast_tab (TB m d : S8192x128.Idx → Elt F .f32) b n ch).trans (tb_at m d b n ch)

theorem w7_v5 (d : Dev nD) (k : Fin 3) (o ch : Fin 128) :
    (at' (W7 m) d main_v5 : S3x128x128.Idx → Elt F .f32) (ix3 k o ch) = (m ((d : Thread nD τ).loc main_arg1) : S128x128x3.Idx → Elt F .f32) (ix3 o ch k) := by
  have h : at' (W7 m) d main_v5 = transpose S3x128x128 [2, 0, 1] ((op4.result (op3.result (W3 m d))) (Proc.devRef .tc main_arg1) : S128x128x3.Idx → Elt F .f32) transposes_S128x128x3_S3x128x128_2_0_1 :=
    (op6_ne _ main_v5 (by decide)).trans (StableHlo.unary_result' ..)
  have h2 : (op4.result (op3.result (W3 m d))) (Proc.devRef .tc main_arg1) = m ((d : Thread nD τ).loc main_arg1) :=
    (op4_ne _ main_arg1 (by decide)).trans ((op3_ne _ main_arg1 (by decide)).trans
      ((w3_ne m d main_arg1 (by decide)).trans ((w2_ne m d main_arg1 (by decide)).trans (w1_ne m d main_arg1 (by decide) (by decide)))))
  rw [h, h2]
  pointwise []

theorem w7_v6 (d : Dev nD) (o : Fin 128) :
    (at' (W7 m) d main_v6 : S1x128.Idx → Elt F .f32) (ix2 0 o) = (m ((d : Thread nD τ).loc main_arg2) : S128.Idx → Elt F .f32) (ix1 o) := by
  have h : at' (W7 m) d main_v6 = shapeCast S1x128 ((op5.result (op4.result (op3.result (W3 m d)))) (Proc.devRef .tc main_arg2) : S128.Idx → Elt F .f32) shapeCasts_S128_S1x128 :=
    StableHlo.reshape_result' ..
  have h2 : (op5.result (op4.result (op3.result (W3 m d)))) (Proc.devRef .tc main_arg2) = m ((d : Thread nD τ).loc main_arg2) :=
    (op5_ne _ main_arg2 (by decide)).trans ((op4_ne _ main_arg2 (by decide)).trans ((op3_ne _ main_arg2 (by decide)).trans
      ((w3_ne m d main_arg2 (by decide)).trans ((w2_ne m d main_arg2 (by decide)).trans (w1_ne m d main_arg2 (by decide) (by decide))))))
  rw [h, h2]
  exact cast_bias (m ((d : Thread nD τ).loc main_arg2) : S128.Idx → Elt F .f32) o

end

/-! ## At the extended reals -/

variable (m : (ℓ : Loc nD τ sig) → Buf (Elt Ideal) ℓ)

/-- The distance from point `n` to point `u` of batch `b`, as the kernel sums it. -/
def kd (x : S4x128x2048.Idx → EReal) (b : Fin 4) (n u : Fin 2048) : EReal :=
  ∑ c, x (ix3 b c n) * x (ix3 b c n) + ∑ c, x (ix3 b c u) * x (ix3 b c u) - ∑ c, ((2 : ℝ) : EReal) * x (ix3 b c n) * x (ix3 b c u)

theorem point_split (n : Fin 2048) : ∃ (j : Fin 4) (r : Fin 512), n = (⟨j.val * 512 + r.val, by omega⟩ : Fin 2048) :=
  ⟨⟨n.val / 512, by omega⟩, ⟨n.val % 512, by omega⟩, Fin.ext (by show n.val = n.val / 512 * 512 + n.val % 512; omega)⟩

/-- The list's two entries of point `n` of batch `b`: the two nearest other points. -/
theorem list_at (d : Dev nD) (x : S4x128x2048.Idx → EReal) (hx : m ((d : Thread nD τ).loc main_arg0) = x) (b : Fin 4) (n : Fin 2048) :
    ∃ p0 p1 : Fin 2048, First (mask n (kd x b n)) (fun _ => True) p0
      ∧ First (mask p0 (mask n (kd x b n))) (fun _ => True) p1
      ∧ (IX m d : S16384.Idx → BitVec 32) (ix1 (⟨0 * 8192 + (b.val * 2048 + n.val), by omega⟩ : Fin 16384)) = BitVec.ofNat 32 (p0.val + 2048 * b.val)
      ∧ (IX m d : S16384.Idx → BitVec 32) (ix1 (⟨1 * 8192 + (b.val * 2048 + n.val), by omega⟩ : Fin 16384)) = BitVec.ofNat 32 (p1.val + 2048 * b.val) := by
  obtain ⟨j, r, rfl⟩ := point_split n
  obtain ⟨p0, p1, h0, h1, e0, e1⟩ := picks_at (grid0.coords (pt0 b j)) b j (coords0 b j).1 (coords0 b j).2 (xAll (at' (W0 m)) d (pt0 b j)) (xPart (at' (W0 m)) d (pt0 b j)) r
  have hd : kDist (xAll (at' (W0 m)) d (pt0 b j)) (xPart (at' (W0 m)) d (pt0 b j)) r = kd x b (⟨j.val * 512 + r.val, by omega⟩ : Fin 2048) := by
    subst hx
    funext u
    unfold kDist kd
    simp only [xPart_at, xAll_at]
    rfl
  have ho : own j r = (⟨j.val * 512 + r.val, by omega⟩ : Fin 2048) := Fin.ext (by show 512 * j.val + r.val = j.val * 512 + r.val; omega)
  rw [hd, ho] at h0 h1
  exact ⟨p0, p1, h0, h1, (ix_at m d 0 b j r).trans e0, (ix_at m d 1 b j r).trans e1⟩

theorem ixOK : IxOK (IX m) := by
  intro d q
  obtain ⟨k, b, n, e⟩ : ∃ (k : Fin 2) (b : Fin 4) (n : Fin 2048), k.val * 8192 + (b.val * 2048 + n.val) = (q 0 : Fin 16384).val := by
    have l : (q 0 : Fin 16384).val < 16384 := (q 0).isLt
    exact ⟨⟨(q 0 : Fin 16384).val / 8192, by omega⟩, ⟨(q 0 : Fin 16384).val % 8192 / 2048, by omega⟩, ⟨(q 0 : Fin 16384).val % 2048, by omega⟩, by
      show (q 0 : Fin 16384).val / 8192 * 8192 + ((q 0 : Fin 16384).val % 8192 / 2048 * 2048 + (q 0 : Fin 16384).val % 2048) = (q 0 : Fin 16384).val
      omega⟩
  have hq : q = ix1 (⟨k.val * 8192 + (b.val * 2048 + n.val), by omega⟩ : Fin 16384) := funext fun a => match a with | ⟨0, _⟩ => Fin.ext e.symm
  obtain ⟨p0, p1, -, -, e0, e1⟩ := list_at m d _ rfl b n
  have key : ∀ p : Fin 2048, (BitVec.ofNat 32 (p.val + 2048 * b.val)).toNat < 8192 := fun p => by
    rw [BitVec.toNat_ofNat]; omega
  rw [hq]
  have hk : k = 0 ∨ k = 1 := by omega
  rcases hk with rfl | rfl
  · exact (congrArg BitVec.toNat e0).trans_lt (key p0)
  · exact (congrArg BitVec.toNat e1).trans_lt (key p1)

theorem convBlk_at (T : Vec Ideal S1x512x128 .f32) (G : Vec Ideal S2x1x512x128 .f32) (W : Vec Ideal S3x128x128 .f32) (b : Vec Ideal S1x128 .f32) (o : Fin 128) (r : Fin 512) :
    convBlk T G W b (ix3 (0 : Fin 1) o r)
      = max (∑ c, W (ix3 0 o c) * T (ix3 0 r c) + ∑ c, W (ix3 1 o c) * G (ix4 0 0 r c) + ∑ c, W (ix3 2 o c) * G (ix4 1 0 r c) + b (ix2 0 o)) 0 := by
  pointwise [convBlk, k2_pay1]

/-- The result at an entry: the weighted sum over the point itself and its two nearest others. -/
theorem out_at (d : Dev nD) (x : S4x128x2048.Idx → EReal) (W : S128x128x3.Idx → EReal) (bi : S128.Idx → EReal)
    (hx : m ((d : Thread nD τ).loc main_arg0) = x) (hW : m ((d : Thread nD τ).loc main_arg1) = W) (hb : m ((d : Thread nD τ).loc main_arg2) = bi)
    (b : Fin 4) (o : Fin 128) (n : Fin 2048) :
    ∃ p0 p1 : Fin 2048, First (mask n (kd x b n)) (fun _ => True) p0
      ∧ First (mask p0 (mask n (kd x b n))) (fun _ => True) p1
      ∧ (at' (W8 m) d main_v7 : S4x128x2048.Idx → EReal) (ix3 b o n)
        = max (∑ c, W (ix3 o c 0) * x (ix3 b c n) + ∑ c, W (ix3 o c 1) * x (ix3 b c p0) + ∑ c, W (ix3 o c 2) * x (ix3 b c p1) + bi (ix1 o)) 0 := by
  obtain ⟨p0, p1, h0, h1, e0, e1⟩ := list_at m d x hx b n
  refine ⟨p0, p1, h0, h1, ?_⟩
  have g0 : ∀ ch : Fin 128, (at' (W7 m) d main_v3 : S2x4x2048x128.Idx → EReal) (ix4 0 b n ch) = x (ix3 b ch p0) := fun ch => by
    rw [w7_v3, ← hx]; exact go_at m d _ b p0 ch e0
  have g1 : ∀ ch : Fin 128, (at' (W7 m) d main_v3 : S2x4x2048x128.Idx → EReal) (ix4 1 b n ch) = x (ix3 b ch p1) := fun ch => by
    rw [w7_v3, ← hx]; exact go_at m d _ b p1 ch e1
  obtain ⟨j, r, rfl⟩ := point_split n
  rw [w8_7]
  rw [convOut_at, convBlk_at]
  have t0 : ∀ (n : Fin 2048) (ch : Fin 128), (at' (W7 m) d main_v4 : S4x2048x128.Idx → EReal) (ix3 b n ch) = x (ix3 b ch n) := fun n ch => by
    rw [← hx]; exact w7_v4 m d b n ch
  have t1 : ∀ (k : Fin 3) (ch : Fin 128), (at' (W7 m) d main_v5 : S3x128x128.Idx → EReal) (ix3 k o ch) = W (ix3 o ch k) := fun k ch => by
    rw [← hW]; exact w7_v5 m d k o ch
  have t2 : (at' (W7 m) d main_v6 : S1x128.Idx → EReal) (ix2 0 o) = bi (ix1 o) := by
    rw [← hb]; exact w7_v6 m d o
  simp only [cTab_at, cGath_at, cW_at, cB_at, t0, t1, t2, g0, g1]

end Cert.Proof.KNN

end
-- ==== Proof.Ref.lean ====
/-
  The reference's result read at an entry: the three nearest points of a point by a stable sort of the negated
  distances, their columns gathered, the weighted sum over channels and neighbours, the bias, and the cut at zero.
-/
module

public import proofs.«01_k».proof.Proof.Gen.ReferenceIdeal.Run
public import Idealize.ShloMosaic.Lib.Pointwise
public import proofs.«01_k».proof.Proof.Order

@[expose] public section
noncomputable section
namespace Cert.Proof.KNN
open Cert.ReferenceIdeal Cert.ReferenceIdeal.Gen
open Idealize.ShloMosaic Idealize.ShloMosaic.Pointwise

def rDist (x : FVec Ideal S4x128x2048 .f32) : FVec Ideal S4x2048x2048 .f32 :=
  Host.negf (subf (addf (broadcastInDim S4x2048x2048 ![0, 1, 2] bcast_S4x1x2048_S4x2048x2048_0_1_2 (broadcastInDim S4x1x2048 ![0, 2] bcast_S4x2048_S4x1x2048_0_2 (Host.reduceAdd (mulf x x) (constant S_ .f32 0x00000000#32) reducesTo_S4x128x2048_S4x2048_d1 h_S_))) (broadcastInDim S4x2048x2048 ![0, 1, 2] bcast_S4x2048x1_S4x2048x2048_0_1_2 (transpose S4x2048x1 [0, 2, 1] (broadcastInDim S4x1x2048 ![0, 2] bcast_S4x2048_S4x1x2048_0_2 (Host.reduceAdd (mulf x x) (constant S_ .f32 0x00000000#32) reducesTo_S4x128x2048_S4x2048_d1 h_S_)) transposes_S4x1x2048_S4x2048x1_0_2_1))) (mulf (broadcastInDim S4x2048x2048 ![] bcast_S_S4x2048x2048 (constant S_ .f32 0x40000000#32)) (Host.dotGeneral dot_S4x128x2048_S4x128x2048_S4x2048x2048_1_1_2_2_0_0 none x x)))

theorem rDist_at (x : FVec Ideal S4x128x2048 .f32) (b : Fin 4) (n m : Fin 2048) :
    rDist x (ix3 b n m) = -(∑ c, x (ix3 b c m) * x (ix3 b c m) + ∑ c, x (ix3 b c n) * x (ix3 b c n) - ((2 : ℝ) : EReal) * ∑ c, x (ix3 b c n) * x (ix3 b c m)) := by
  have h2 : Ideal.ofBits .f32 0x40000000#32 = ((2 : ℝ) : EReal) := by
    simp [Ideal.ofBits, Ideal.ieee]
    rw [← EReal.coe_mul]
    norm_num
  pointwise [rDist]
  rw [h2]

def rTop (x : FVec Ideal S4x128x2048 .f32) : IVec S4x2048x3 32 :=
  (Host.topK S4x2048x3 2 (FloatOps.cmpfTotal .gt) (rDist x) sliceFits_S4x2048x2048_S4x2048x3).2

/-- The `k`-th nearest point of point `n` in batch `b`. -/
def rPos (x : FVec Ideal S4x128x2048 .f32) (b : Fin 4) (n : Fin 2048) (k : Fin 3) : Fin 2048 :=
  sortedFrom (fun u v : Fin 2048 => (FloatOps.cmpfTotal (F := Ideal) (φ := .f32) .gt (rDist x (ix3 b n u)) (rDist x (ix3 b n v))) == 1#1) (k.castLE (by decide))

theorem rTop_at (x : FVec Ideal S4x128x2048 .f32) (b : Fin 4) (n : Fin 2048) (k : Fin 3) :
    rTop x (ix3 b n k) = BitVec.ofNat 32 (rPos x b n k).val := by
  unfold rTop Host.topK Host.sort2
  pointwise []
  have hal : ∀ (q : Fin 2048) (u : Fin 2048), (ix3 b n q : S4x2048x2048.Idx).along 2 u = ix3 b n u := fun q u => by
    funext a
    match a with
    | ⟨0, _⟩ => exact Function.update_of_ne (fun h => absurd (congrArg Fin.val h : (0 : Nat) = 2) (by decide)) _ _
    | ⟨1, _⟩ => exact Function.update_of_ne (fun h => absurd (congrArg Fin.val h : (1 : Nat) = 2) (by decide)) _ _
    | ⟨2, _⟩ => exact Function.update_self ..
  simp only [hal]
  rfl

def rIdx (t : IVec S4x2048x3 32) : IVec S4x2048x3x1 32 :=
  broadcastInDim S4x2048x3x1 ![0, 1, 2] bcast_S4x2048x3_S4x2048x3x1_0_1_2 (select (cmpi .slt t (broadcastInDim S4x2048x3 ![] bcast_S_S4x2048x3 (constantI S_ 32 0#32))) (addi t (broadcastInDim S4x2048x3 ![] bcast_S_S4x2048x3 (constantI S_ 32 2048#32))) t)

theorem toInt_small (p : Fin 2048) : (BitVec.ofNat 32 p.val).toInt = (p.val : Int) := by
  have hp := p.isLt
  rw [BitVec.toInt_ofNat']
  simp [Int.bmod]
  omega

theorem rIdx_at (t : IVec S4x2048x3 32) (b : Fin 4) (n : Fin 2048) (k : Fin 3) (p : Fin 2048)
    (h : t (ix3 b n k) = BitVec.ofNat 32 p.val) : rIdx t (ix4 b n k (0 : Fin 1)) = BitVec.ofNat 32 p.val := by
  pointwise [rIdx]
  have hc : IntOp.cmpi .slt (BitVec.ofNat 32 p.val) 0#32 = 0#1 := by
    have hp := toInt_small p
    have h0 : ¬ ((p.val : Int) < 0) := by omega
    simp [IntOp.cmpi, BitVec.slt, hp, h0]
  rw [h, hc]; rfl

theorem rGather_at (x : FVec Ideal S4x128x2048 .f32) (i : IVec S4x2048x3x1 32) (b : Fin 4) (c : Fin 128) (n : Fin 2048) (k : Fin 3) (p : Fin 2048)
    (h : i (ix4 b n k (0 : Fin 1)) = BitVec.ofNat 32 p.val) :
    Host.gather gather_S4x128x2048_S4x2048x3x1_S4x128x2048x3_1_2_0_0_2_3_11281 x i (ix4 b c n k) = x (ix3 b c p) := by
  unfold Host.gather
  refine congrArg x (funext fun a => Fin.ext ?_)
  have hp := p.isLt
  match a with
  | ⟨0, _⟩ =>
    show 0 + b.val + 0 = b.val
    omega
  | ⟨1, _⟩ =>
    show 0 + 0 + c.val = c.val
    omega
  | ⟨2, _⟩ =>
    show min (i ((gather_S4x128x2048_S4x2048x3x1_S4x128x2048x3_1_2_0_0_2_3_11281).siIdx (ix4 b c n k) ⟨0, by decide⟩)).toInt.toNat (2048 - 1) + 0 + 0 = p.val
    rw [show (gather_S4x128x2048_S4x2048x3x1_S4x128x2048x3_1_2_0_0_2_3_11281).siIdx (ix4 b c n k) ⟨0, by decide⟩ = ix4 b n k (0 : Fin 1) from
      funext fun a => by match a with
        | ⟨0, _⟩ => rfl
        | ⟨1, _⟩ => rfl
        | ⟨2, _⟩ => rfl
        | ⟨3, _⟩ => rfl, h, toInt_small p]
    omega

def rOut (g : FVec Ideal S4x128x2048x3 .f32) (W : FVec Ideal S128x128x3 .f32) (bi : FVec Ideal S128 .f32) : FVec Ideal S4x128x2048 .f32 :=
  maximumf (addf (transpose S4x128x2048 [0, 2, 1] (Host.dotGeneral dot_S4x128x2048x3_S128x128x3_S4x2048x128_13_12_02_0_n_n none g W) transposes_S4x2048x128_S4x128x2048_0_2_1) (broadcastInDim S4x128x2048 ![0, 1, 2] bcast_S1x128x1_S4x128x2048_0_1_2 (broadcastInDim S1x128x1 ![1] bcast_S128_S1x128x1_1 bi))) (broadcastInDim S4x128x2048 ![] bcast_S_S4x128x2048 (constant S_ .f32 0x00000000#32))

theorem rOut_at (g : FVec Ideal S4x128x2048x3 .f32) (W : FVec Ideal S128x128x3 .f32) (bi : FVec Ideal S128 .f32) (b : Fin 4) (o : Fin 128) (n : Fin 2048) :
    rOut g W bi (ix3 b o n) = max (∑ c, ∑ k, g (ix4 b c n k) * W (ix3 o c k) + bi (ix1 o)) 0 := by
  pointwise [rOut]

theorem rPos_first (x : FVec Ideal S4x128x2048 .f32) (b : Fin 4) (n : Fin 2048) (f : Fin 2048 → EReal)
    (hf : ∀ u, rDist x (ix3 b n u) = -(f u)) :
    First f (fun _ => True) (rPos x b n 0) ∧ First f (fun u => u ≠ rPos x b n 0) (rPos x b n 1)
      ∧ First f (fun u => u ≠ rPos x b n 0 ∧ u ≠ rPos x b n 1) (rPos x b n 2) := by
  have key := sorted_first f (fun u v : Fin 2048 => (FloatOps.cmpfTotal (F := Ideal) (φ := .f32) .gt (rDist x (ix3 b n u)) (rDist x (ix3 b n v))) == 1#1)
    (fun u v => by
      show (BitVec.ofBool (decide (rDist x (ix3 b n v) < rDist x (ix3 b n u))) == 1#1) = _
      rw [hf, hf]
      have e : (-(f v) < -(f u)) ↔ f u < f v := EReal.neg_lt_neg_iff
      by_cases h : f u < f v <;> simp [e, h])
  have h0 := key ((0 : Fin 3).castLE (by decide))
  have h1 := key ((1 : Fin 3).castLE (by decide))
  have h2 := key ((2 : Fin 3).castLE (by decide))
  refine ⟨⟨trivial, fun u _ => h0.2 u fun j hj => absurd hj (Nat.not_lt_zero _)⟩,
    ⟨h1.1 _ (by decide), fun u hu => h1.2 u fun j hj => ?_⟩, ⟨⟨h2.1 _ (by decide), h2.1 _ (by decide)⟩, fun u hu => h2.2 u fun j hj => ?_⟩⟩
  · have hv : j.val < 1 := hj
    have : j = (0 : Fin 3).castLE (by decide) := Fin.ext (by show j.val = 0; omega)
    rw [this]; exact hu
  · have hv : j.val < 2 := hj
    rcases (show j.val = 0 ∨ j.val = 1 by omega) with e | e
    · have : j = (0 : Fin 3).castLE (by decide) := Fin.ext e
      rw [this]; exact hu.1
    · have : j = (1 : Fin 3).castLE (by decide) := Fin.ext e
      rw [this]; exact hu.2

theorem res_eq (m : (ℓ : Loc nD τ sig) → Buf (Elt Ideal) ℓ) (c : Dev nD) :
    Cert.ReferenceIdeal.Value.res_main_v24 m c = rOut (Host.gather gather_S4x128x2048_S4x2048x3x1_S4x128x2048x3_1_2_0_0_2_3_11281 (m ((c.tc : Thread nD τ).loc main_arg0)) (rIdx (rTop (m ((c.tc : Thread nD τ).loc main_arg0))))) (m ((c.tc : Thread nD τ).loc main_arg1)) (m ((c.tc : Thread nD τ).loc main_arg2)) := rfl
/-- The reference's result at output channel `o` of point `n` in batch `b`. -/
theorem ref_at (m : (ℓ : Loc nD τ sig) → Buf (Elt Ideal) ℓ) (c : Dev nD) (x : FVec Ideal S4x128x2048 .f32) (W : FVec Ideal S128x128x3 .f32)
    (bi : FVec Ideal S128 .f32) (hx : m ((c.tc : Thread nD τ).loc main_arg0) = x) (hW : m ((c.tc : Thread nD τ).loc main_arg1) = W)
    (hb : m ((c.tc : Thread nD τ).loc main_arg2) = bi) (b : Fin 4) (o : Fin 128) (n : Fin 2048) :
    (Cert.ReferenceIdeal.Value.res_main_v24 m c : FVec Ideal S4x128x2048 .f32) (ix3 b o n)
      = max (∑ ch, ∑ k, x (ix3 b ch (rPos x b n k)) * W (ix3 o ch k) + bi (ix1 o)) 0 := by
  rw [res_eq, hx, hW, hb, rOut_at]
  simp only [fun ch k => rGather_at x (rIdx (rTop x)) b ch n k (rPos x b n k) (rIdx_at _ b n k _ (rTop_at x b n k))]

end Cert.Proof.KNN
end
-- ==== Proof.Final.lean ====
/-
  Kernel and reference agree on finite inputs: both distances are the squared distance of two columns, a point is at
  distance zero from itself, and so the point and its two nearest others have the columns of the three nearest.
-/
module

public import proofs.«01_k».proof.Proof.Values
public import proofs.«01_k».proof.Proof.Ref
public import proofs.«01_k».proof.Proof.Gen.Pre_finite
public import Idealize.ShloMosaic.Lib.ReduceAll

@[expose] public section

noncomputable section

namespace Cert.Proof.KNN

open Idealize.ShloMosaic Idealize.ShloMosaic.Pointwise

abbrev SX : Shape := ⟨3, ![4, 128, 2048]⟩
abbrev SW : Shape := ⟨3, ![128, 128, 3]⟩
abbrev SB : Shape := ⟨1, ![128]⟩

/-! ## The precondition -/

theorem real_of_abs_lt_top (x : EReal) (h : max x (-x) < ⊤) : ∃ a : ℝ, x = a := by
  induction x using EReal.rec with
  | bot => simp at h
  | top => simp at h
  | coe a => exact ⟨a, rfl⟩

theorem reals_of_pre (x : SX.Idx → EReal) (W : SW.Idx → EReal) (bi : SB.Idx → EReal)
    (h : (Cert.Pre_finite.fn (F := Ideal) x W bi : Cert.Pre_finite.S_.Idx → BitVec 1) = fun _ => 1#1) : ∃ X : SX.Idx → ℝ, x = fun i => ((X i : ℝ) : EReal) := by
  have key : ∀ i, ∃ a : ℝ, x i = a := fun i => by
    have h1 := congrFun h (fun a => a.elim0)
    haveI : Subsingleton Cert.Pre_finite.S_.Idx := ⟨fun a b => funext fun q => q.elim0⟩
    have h2 := Host.reduce_andi_all _ _ _ _ _ h1 i
    have h3 : BitVec.ofBool (decide (max (x i) (-(x i)) < Ideal.ofBits .f32 0x7F800000#32)) = 1#1 := h2
    rw [ofBits_top] at h3
    refine real_of_abs_lt_top _ ?_
    by_contra hc
    rw [decide_eq_false hc] at h3
    exact absurd h3 (by decide)
  choose X hX using key
  exact ⟨X, funext hX⟩

/-! ## Real distances -/

/-- The squared distance of the columns at points `n` and `u` of batch `b`. -/
def sq (X : SX.Idx → ℝ) (b : Fin 4) (n u : Fin 2048) : ℝ := ∑ c : Fin 128, (X (ix3 b c n) - X (ix3 b c u)) ^ 2

theorem coe_sum {n : Nat} (g : Fin n → ℝ) : (∑ c, ((g c : ℝ) : EReal)) = ((∑ c, g c : ℝ) : EReal) :=
  (map_sum (⟨⟨Real.toEReal, EReal.coe_zero⟩, EReal.coe_add⟩ : ℝ →+ EReal) g Finset.univ).symm

theorem kd_real (X : SX.Idx → ℝ) (b : Fin 4) (n u : Fin 2048) : kd (fun i => ((X i : ℝ) : EReal)) b n u = ((sq X b n u : ℝ) : EReal) := by
  unfold kd
  simp only [← EReal.coe_mul, coe_sum]
  rw [← EReal.coe_add, ← EReal.coe_sub, EReal.coe_eq_coe_iff, ← Finset.sum_add_distrib, ← Finset.sum_sub_distrib]
  exact Finset.sum_congr rfl fun c _ => by ring

theorem rDist_real (X : SX.Idx → ℝ) (b : Fin 4) (n u : Fin 2048) :
    rDist (fun i => ((X i : ℝ) : EReal)) (ix3 b n u) = -((sq X b n u : ℝ) : EReal) := by
  rw [rDist_at]
  simp only [← EReal.coe_mul, coe_sum]
  rw [← EReal.coe_add, ← EReal.coe_sub]
  refine congrArg (fun q : ℝ => -(q : EReal)) ?_
  unfold sq
  rw [Finset.mul_sum, ← Finset.sum_add_distrib, ← Finset.sum_sub_distrib]
  exact Finset.sum_congr rfl fun c _ => by ring

theorem sq_self (X : SX.Idx → ℝ) (b : Fin 4) (n : Fin 2048) : sq X b n n = 0 := by simp [sq]
theorem sq_nonneg' (X : SX.Idx → ℝ) (b : Fin 4) (n u : Fin 2048) : 0 ≤ sq X b n u := Finset.sum_nonneg fun _ _ => sq_nonneg _
theorem col_of_sq (X : SX.Idx → ℝ) (b : Fin 4) (n u : Fin 2048) (h : sq X b n u = 0) (c : Fin 128) : X (ix3 b c u) = X (ix3 b c n) := by
  have h1 := (Finset.sum_eq_zero_iff_of_nonneg (fun _ _ => sq_nonneg _)).1 h c (Finset.mem_univ c)
  have h2 := pow_eq_zero_iff (two_ne_zero) |>.1 h1
  linarith

/-! ## Masking is leaving out -/

/-- With one position masked, the first least entry is the first least of the others, finite entries given. -/
theorem First.of_mask (f : Fin 2048 → EReal) (S : Fin 2048 → Prop) (g : Fin 2048 → EReal) (hg : ∀ u, S u → g u = f u) (hf : ∀ u, f u < ⊤)
    (hS : ∀ u, ¬ S u → g u = ⊤) (u₀ : Fin 2048) (h₀ : S u₀) (p : Fin 2048) (h : First g (fun _ => True) p) : First f S p := by
  have hp : S p := by
    by_contra hn
    have e := hS p hn
    have l : g u₀ < ⊤ := (hg u₀ h₀).trans_lt (hf u₀)
    rcases h.2 u₀ trivial with h1 | ⟨h1, -⟩
    · exact absurd (e ▸ h1) (not_lt.2 le_top)
    · exact absurd (h1.symm.trans e) l.ne
  refine ⟨hp, fun u hu => ?_⟩
  have := h.2 u trivial
  rwa [hg p hp, hg u hu] at this

theorem exists_other2 (a b : Fin 2048) : ∃ u : Fin 2048, u ≠ a ∧ u ≠ b := by
  by_cases h0 : (0 : Fin 2048) ≠ a ∧ (0 : Fin 2048) ≠ b
  · exact ⟨0, h0⟩
  by_cases h1 : (1 : Fin 2048) ≠ a ∧ (1 : Fin 2048) ≠ b
  · exact ⟨1, h1⟩
  refine ⟨2, ?_, ?_⟩ <;> omega

theorem masked (f : Fin 2048 → EReal) (hf : ∀ u, f u < ⊤) (n p0 p1 : Fin 2048) (h0 : First (mask n f) (fun _ => True) p0)
    (h1 : First (mask p0 (mask n f)) (fun _ => True) p1) : First f (fun u => u ≠ n) p0 ∧ First f (fun u => u ≠ n ∧ u ≠ p0) p1 := by
  obtain ⟨u, hu, hu'⟩ := exists_other2 n p0
  refine ⟨First.of_mask f (fun u => u ≠ n) (mask n f) (fun u h => if_neg h) hf (fun u h => if_pos (not_not.1 h)) u hu p0 h0,
    First.of_mask f (fun u => u ≠ n ∧ u ≠ p0) (mask p0 (mask n f)) (fun u h => (if_neg h.2).trans (if_neg h.1)) hf (fun u h => ?_) u ⟨hu, hu'⟩ p1 h1⟩
  by_cases e : u = p0
  · exact if_pos e
  · refine (if_neg e).trans (if_pos ?_)
    by_contra e'
    exact h ⟨e', e⟩

/-! ## The results -/

theorem same_out (X : SX.Idx → ℝ) (W : SW.Idx → EReal) (bi : SB.Idx → EReal) (b : Fin 4) (o : Fin 128) (n p0 p1 : Fin 2048)
    (h0 : First (mask n (kd (fun i => ((X i : ℝ) : EReal)) b n)) (fun _ => True) p0)
    (h1 : First (mask p0 (mask n (kd (fun i => ((X i : ℝ) : EReal)) b n))) (fun _ => True) p1) :
    max (∑ c : Fin 128, W (ix3 o c 0) * ((X (ix3 b c n) : ℝ) : EReal) + ∑ c : Fin 128, W (ix3 o c 1) * ((X (ix3 b c p0) : ℝ) : EReal)
        + ∑ c : Fin 128, W (ix3 o c 2) * ((X (ix3 b c p1) : ℝ) : EReal) + bi (ix1 o)) 0
      = max (∑ ch : Fin 128, ∑ k : Fin 3, ((X (ix3 b ch (rPos (fun i => ((X i : ℝ) : EReal)) b n k)) : ℝ) : EReal) * W (ix3 o ch k) + bi (ix1 o)) 0 := by
  have hk : kd (fun i => ((X i : ℝ) : EReal)) b n = fun u => ((sq X b n u : ℝ) : EReal) := funext fun u => kd_real X b n u
  rw [hk] at h0 h1
  obtain ⟨hp0, hp1⟩ := masked _ (fun u => EReal.coe_lt_top _) n p0 p1 h0 h1
  obtain ⟨hq0, hq1, hq2⟩ := rPos_first (fun i => ((X i : ℝ) : EReal)) b n (fun u => ((sq X b n u : ℝ) : EReal)) (fun u => rDist_real X b n u)
  obtain ⟨e0, e1, e2⟩ := same_three (fun u => fun c : Fin 128 => X (ix3 b c u)) n p0 p1 _ _ _
    (fun u => by rw [EReal.coe_le_coe_iff, sq_self]; exact sq_nonneg' X b n u)
    (fun u hu => funext fun c => col_of_sq X b n u (by rw [EReal.coe_eq_coe_iff, sq_self] at hu; exact hu) c)
    hp0 hp1 hq0 hq1 hq2
  have c0 : ∀ c : Fin 128, X (ix3 b c (rPos (fun i => ((X i : ℝ) : EReal)) b n 0)) = X (ix3 b c n) := fun c => congrFun e0 c
  have c1 : ∀ c : Fin 128, X (ix3 b c (rPos (fun i => ((X i : ℝ) : EReal)) b n 1)) = X (ix3 b c p0) := fun c => congrFun e1 c
  have c2 : ∀ c : Fin 128, X (ix3 b c (rPos (fun i => ((X i : ℝ) : EReal)) b n 2)) = X (ix3 b c p1) := fun c => congrFun e2 c
  congr 2
  rw [← Finset.sum_add_distrib, ← Finset.sum_add_distrib]
  refine Finset.sum_congr rfl fun c _ => ?_
  rw [Fin.sum_univ_three, c0, c1, c2, mul_comm (W _), mul_comm (W _), mul_comm (W _)]

/-- On finite inputs the two programs' results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (X : SX.Idx → ℝ) (x : SX.Idx → EReal) (W : SW.Idx → EReal) (bi : SB.Idx → EReal) (hX : x = fun i => ((X i : ℝ) : EReal))
    (hx : m ((d.tc : Thread _ Cert.KernelIdeal.τ).loc Cert.KernelIdeal.main_arg0) = x)
    (hW : m ((d.tc : Thread _ Cert.KernelIdeal.τ).loc Cert.KernelIdeal.main_arg1) = W)
    (hb : m ((d.tc : Thread _ Cert.KernelIdeal.τ).loc Cert.KernelIdeal.main_arg2) = bi)
    (hx' : m' ((d.tc : Thread _ Cert.ReferenceIdeal.τ).loc Cert.ReferenceIdeal.main_arg0) = x)
    (hW' : m' ((d.tc : Thread _ Cert.ReferenceIdeal.τ).loc Cert.ReferenceIdeal.main_arg1) = W)
    (hb' : m' ((d.tc : Thread _ Cert.ReferenceIdeal.τ).loc Cert.ReferenceIdeal.main_arg2) = bi) :
    (Cert.ReferenceIdeal.Value.res_main_v24 m' d : SX.Idx → EReal) = (at' (W8 m) d Cert.KernelIdeal.main_v7 : SX.Idx → EReal) := by
  funext i
  obtain ⟨b, o, n, rfl⟩ : ∃ (b : Fin 4) (o : Fin 128) (n : Fin 2048), i = ix3 b o n :=
    ⟨i 0, i 1, i 2, funext fun a => match a with | ⟨0, _⟩ => rfl | ⟨1, _⟩ => rfl | ⟨2, _⟩ => rfl⟩
  obtain ⟨p0, p1, h0, h1, e⟩ := out_at m d x W bi hx hW hb b o n
  refine (ref_at m' d x W bi hx' hW' hb' b o n).trans (Eq.symm (e.trans ?_))
  subst hX
  exact same_out X W bi b o n p0 p1 h0 h1

end Cert.Proof.KNN

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Final
public import Idealize.ShloMosaic.Adequacy
public import Idealize.ShloMosaic.Init

@[expose] public section

noncomputable section

namespace Cert.Proof

open Idealize.ShloMosaic Idealize.ShloMosaic.TcCoe Idealize.SL.Sem Cert.Proof.KNN

section
open Cert.KernelIdeal Cert.KernelIdeal.Gen

variable (m : (ℓ : Loc nD τ sig) → Buf (Elt Ideal) ℓ) (ρ : Dev nD → PrngReg)

/-- The kernel's run: its result, its arguments unchanged, every counter at zero. -/
theorem kernel_run :
    θ_run (Cert.KernelIdeal.defs (F := Ideal)) (Cert.KernelIdeal.threads (F := Ideal)) ⟨m, fun _ => 0, ρ⟩ (fun r =>
      (∀ c : Dev nD, r.2.mem ((c.tc : Thread nD τ).loc main_v7) = at' (W8 m) c main_v7
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run _ _ _).mono (fun r h => ⟨fun c => ⟨h.1 c (Proc.devRef .tc main_v7) (by decide),
      (h.1 c (Proc.devRef .tc main_arg0) (by decide)).trans (w8_arg0 m c),
      (h.1 c (Proc.devRef .tc main_arg1) (by decide)).trans (w8_arg1 m c),
      (h.1 c (Proc.devRef .tc main_arg2) (by decide)).trans (w8_arg2 m c)⟩, h.2⟩) (run_main m ρ (ixOK m))

end

theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)
        ∧ r.2.mem ((c.tc : Thread _ Cert.ReferenceIdeal.τ).loc Cert.ReferenceIdeal.main_arg2) = m ((c.tc : Thread _ Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m ρ)

theorem claim : Cert.Claim := ⟨Cert.KernelIdeal.Gen.facts, Cert.ReferenceIdeal.Gen.facts, Cert.Pre_finite.Gen.facts,
  fun m g _ => (θ_run _ _ _).mono (fun _ h => ⟨fun c => (h.1 c).2, h.2⟩) (kernel_run m g),
  fun m g _ => (θ_run _ _ _).mono (fun _ h => ⟨fun c => (h.1 c).2, h.2⟩) (kernel_run m g),
  fun m g _ => reference_quiet m g,
  fun m g _ => reference_quiet m g,
  fun m g m' g' hpre hargs => ⟨fun c => at' (W8 m) c Cert.KernelIdeal.main_v7,
    (θ_run _ _ _).mono (fun _ h => h.1) (kernel_run m g),
    (θ_run _ _ _).mono (fun _ h c => by
      obtain ⟨X, hX⟩ := reals_of_pre _ _ _ (hpre c)
      exact ⟨(h c).1.trans (results_eq m m' c X _ _ _ hX rfl rfl rfl (hargs c).1 (hargs c).2.1 (hargs c).2.2), (h c).2⟩)
      (Cert.ReferenceIdeal.Value.run m' g')⟩⟩

end Cert.Proof

end
